-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_OddKernel (m : (ℓ : Loc Cert.OddKernel.nD Cert.OddKernel.τ Cert.OddKernel.sig) → Buf (Elt Bits) ℓ) : Prop :=
  True

def Pre_OddKernelIdeal (m : (ℓ : Loc Cert.OddKernelIdeal.nD Cert.OddKernelIdeal.τ Cert.OddKernelIdeal.sig) → Buf (Elt Ideal) ℓ) : Prop :=
  True

def Pre_OddReferenceIdeal (m : (ℓ : Loc Cert.OddReferenceIdeal.nD Cert.OddReferenceIdeal.τ Cert.OddReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemKernelIdeal_gains_finite [hPre_gains_finite : Cert.Pre_gains_finite.Facts] (m : (ℓ : Loc Cert.MemKernelIdeal.nD Cert.MemKernelIdeal.τ Cert.MemKernelIdeal.sig) → Buf (Elt Ideal) ℓ) : Prop :=
  ∀ c : Dev Cert.MemKernelIdeal.nD,
    (Cert.Pre_gains_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2)) (m ((c.tc : Thread Cert.MemKernelIdeal.nD Cert.MemKernelIdeal.τ).loc Cert.MemKernelIdeal.main_arg3)) (m ((c.tc : Thread Cert.MemKernelIdeal.nD Cert.MemKernelIdeal.τ).loc Cert.MemKernelIdeal.main_arg4)) (m ((c.tc : Thread Cert.MemKernelIdeal.nD Cert.MemKernelIdeal.τ).loc Cert.MemKernelIdeal.main_arg5)) (m ((c.tc : Thread Cert.MemKernelIdeal.nD Cert.MemKernelIdeal.τ).loc Cert.MemKernelIdeal.main_arg6)) (m ((c.tc : Thread Cert.MemKernelIdeal.nD Cert.MemKernelIdeal.τ).loc Cert.MemKernelIdeal.main_arg7)) (m ((c.tc : Thread Cert.MemKernelIdeal.nD Cert.MemKernelIdeal.τ).loc Cert.MemKernelIdeal.main_arg8))) = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_gains_finite [hPre_gains_finite : Cert.Pre_gains_finite.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_gains_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2)) (m ((c.tc : Thread Cert.MemReferenceIdeal.nD Cert.MemReferenceIdeal.τ).loc Cert.MemReferenceIdeal.main_arg3)) (m ((c.tc : Thread Cert.MemReferenceIdeal.nD Cert.MemReferenceIdeal.τ).loc Cert.MemReferenceIdeal.main_arg4)) (m ((c.tc : Thread Cert.MemReferenceIdeal.nD Cert.MemReferenceIdeal.τ).loc Cert.MemReferenceIdeal.main_arg5)) (m ((c.tc : Thread Cert.MemReferenceIdeal.nD Cert.MemReferenceIdeal.τ).loc Cert.MemReferenceIdeal.main_arg6)) (m ((c.tc : Thread Cert.MemReferenceIdeal.nD Cert.MemReferenceIdeal.τ).loc Cert.MemReferenceIdeal.main_arg7)) (m ((c.tc : Thread Cert.MemReferenceIdeal.nD Cert.MemReferenceIdeal.τ).loc Cert.MemReferenceIdeal.main_arg8))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_OddKernel [hOddKernel : Cert.OddKernel.Facts] : Prop :=
  ∀ (m : (ℓ : Loc Cert.OddKernel.nD Cert.OddKernel.τ Cert.OddKernel.sig) → Buf (Elt Bits) ℓ) (g : Dev Cert.OddKernel.nD → PrngReg), Pre_OddKernel m →
    θ_run (Cert.OddKernel.defs (F := Bits)) (onTc (τ := Cert.OddKernel.τ) (Cert.OddKernel.main (F := Bits))) ⟨m, fun _ => 0, g⟩ (fun r => (∀ c : Dev Cert.OddKernel.nD,
      r.2.mem ((c.tc : Thread Cert.OddKernel.nD Cert.OddKernel.τ).loc Cert.OddKernel.main_arg0) = m ((c.tc : Thread Cert.OddKernel.nD Cert.OddKernel.τ).loc Cert.OddKernel.main_arg0)
      ∧ r.2.mem ((c.tc : Thread Cert.OddKernel.nD Cert.OddKernel.τ).loc Cert.OddKernel.main_arg1) = m ((c.tc : Thread Cert.OddKernel.nD Cert.OddKernel.τ).loc Cert.OddKernel.main_arg1)
      ∧ r.2.mem ((c.tc : Thread Cert.OddKernel.nD Cert.OddKernel.τ).loc Cert.OddKernel.main_arg2) = m ((c.tc : Thread Cert.OddKernel.nD Cert.OddKernel.τ).loc Cert.OddKernel.main_arg2)
      ∧ r.2.mem ((c.tc : Thread Cert.OddKernel.nD Cert.OddKernel.τ).loc Cert.OddKernel.main_arg3) = m ((c.tc : Thread Cert.OddKernel.nD Cert.OddKernel.τ).loc Cert.OddKernel.main_arg3)
      ∧ r.2.mem ((c.tc : Thread Cert.OddKernel.nD Cert.OddKernel.τ).loc Cert.OddKernel.main_arg4) = m ((c.tc : Thread Cert.OddKernel.nD Cert.OddKernel.τ).loc Cert.OddKernel.main_arg4)
      ∧ r.2.mem ((c.tc : Thread Cert.OddKernel.nD Cert.OddKernel.τ).loc Cert.OddKernel.main_arg5) = m ((c.tc : Thread Cert.OddKernel.nD Cert.OddKernel.τ).loc Cert.OddKernel.main_arg5))
      ∧ r.2.sem = fun _ => 0)

def quiescent_OddKernelIdeal [hOddKernelIdeal : Cert.OddKernelIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg), Pre_OddKernelIdeal m →
    θ_run (Cert.OddKernelIdeal.defs (F := Ideal)) (onTc (τ := Cert.OddKernelIdeal.τ) (Cert.OddKernelIdeal.main (F := Ideal))) ⟨m, fun _ => 0, g⟩ (fun r => (∀ c : Dev Cert.OddKernelIdeal.nD,
      r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
      ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
      ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2)
      ∧ r.2.mem ((c.tc : Thread Cert.OddKernelIdeal.nD Cert.OddKernelIdeal.τ).loc Cert.OddKernelIdeal.main_arg3) = m ((c.tc : Thread Cert.OddKernelIdeal.nD Cert.OddKernelIdeal.τ).loc Cert.OddKernelIdeal.main_arg3)
      ∧ r.2.mem ((c.tc : Thread Cert.OddKernelIdeal.nD Cert.OddKernelIdeal.τ).loc Cert.OddKernelIdeal.main_arg4) = m ((c.tc : Thread Cert.OddKernelIdeal.nD Cert.OddKernelIdeal.τ).loc Cert.OddKernelIdeal.main_arg4)
      ∧ r.2.mem ((c.tc : Thread Cert.OddKernelIdeal.nD Cert.OddKernelIdeal.τ).loc Cert.OddKernelIdeal.main_arg5) = m ((c.tc : Thread Cert.OddKernelIdeal.nD Cert.OddKernelIdeal.τ).loc Cert.OddKernelIdeal.main_arg5))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3)
      ∧ r.2.mem ((c.tc : Thread Cert.OddReferenceIdeal.nD Cert.OddReferenceIdeal.τ).loc Cert.OddReferenceIdeal.main_arg4) = m ((c.tc : Thread Cert.OddReferenceIdeal.nD Cert.OddReferenceIdeal.τ).loc Cert.OddReferenceIdeal.main_arg4)
      ∧ r.2.mem ((c.tc : Thread Cert.OddReferenceIdeal.nD Cert.OddReferenceIdeal.τ).loc Cert.OddReferenceIdeal.main_arg5) = m ((c.tc : Thread Cert.OddReferenceIdeal.nD Cert.OddReferenceIdeal.τ).loc Cert.OddReferenceIdeal.main_arg5))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3)
      ∧ r.2.mem ((c.tc : Thread Cert.MemKernel.nD Cert.MemKernel.τ).loc Cert.MemKernel.main_arg4) = m ((c.tc : Thread Cert.MemKernel.nD Cert.MemKernel.τ).loc Cert.MemKernel.main_arg4)
      ∧ r.2.mem ((c.tc : Thread Cert.MemKernel.nD Cert.MemKernel.τ).loc Cert.MemKernel.main_arg5) = m ((c.tc : Thread Cert.MemKernel.nD Cert.MemKernel.τ).loc Cert.MemKernel.main_arg5)
      ∧ r.2.mem ((c.tc : Thread Cert.MemKernel.nD Cert.MemKernel.τ).loc Cert.MemKernel.main_arg6) = m ((c.tc : Thread Cert.MemKernel.nD Cert.MemKernel.τ).loc Cert.MemKernel.main_arg6)
      ∧ r.2.mem ((c.tc : Thread Cert.MemKernel.nD Cert.MemKernel.τ).loc Cert.MemKernel.main_arg7) = m ((c.tc : Thread Cert.MemKernel.nD Cert.MemKernel.τ).loc Cert.MemKernel.main_arg7)
      ∧ r.2.mem ((c.tc : Thread Cert.MemKernel.nD Cert.MemKernel.τ).loc Cert.MemKernel.main_arg8) = m ((c.tc : Thread Cert.MemKernel.nD Cert.MemKernel.τ).loc Cert.MemKernel.main_arg8))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
      ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4)
      ∧ r.2.mem ((c.tc : Thread Cert.MemKernelIdeal.nD Cert.MemKernelIdeal.τ).loc Cert.MemKernelIdeal.main_arg5) = m ((c.tc : Thread Cert.MemKernelIdeal.nD Cert.MemKernelIdeal.τ).loc Cert.MemKernelIdeal.main_arg5)
      ∧ r.2.mem ((c.tc : Thread Cert.MemKernelIdeal.nD Cert.MemKernelIdeal.τ).loc Cert.MemKernelIdeal.main_arg6) = m ((c.tc : Thread Cert.MemKernelIdeal.nD Cert.MemKernelIdeal.τ).loc Cert.MemKernelIdeal.main_arg6)
      ∧ r.2.mem ((c.tc : Thread Cert.MemKernelIdeal.nD Cert.MemKernelIdeal.τ).loc Cert.MemKernelIdeal.main_arg7) = m ((c.tc : Thread Cert.MemKernelIdeal.nD Cert.MemKernelIdeal.τ).loc Cert.MemKernelIdeal.main_arg7)
      ∧ r.2.mem ((c.tc : Thread Cert.MemKernelIdeal.nD Cert.MemKernelIdeal.τ).loc Cert.MemKernelIdeal.main_arg8) = m ((c.tc : Thread Cert.MemKernelIdeal.nD Cert.MemKernelIdeal.τ).loc Cert.MemKernelIdeal.main_arg8))
      ∧ r.2.sem = fun _ => 0)

def quiescent_MemKernelIdeal_pre_gains_finite [hMemKernelIdeal : Cert.MemKernelIdeal.Facts] [hPre_gains_finite : Cert.Pre_gains_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal_gains_finite m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
      ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4)
      ∧ r.2.mem ((c.tc : Thread Cert.MemKernelIdeal.nD Cert.MemKernelIdeal.τ).loc Cert.MemKernelIdeal.main_arg5) = m ((c.tc : Thread Cert.MemKernelIdeal.nD Cert.MemKernelIdeal.τ).loc Cert.MemKernelIdeal.main_arg5)
      ∧ r.2.mem ((c.tc : Thread Cert.MemKernelIdeal.nD Cert.MemKernelIdeal.τ).loc Cert.MemKernelIdeal.main_arg6) = m ((c.tc : Thread Cert.MemKernelIdeal.nD Cert.MemKernelIdeal.τ).loc Cert.MemKernelIdeal.main_arg6)
      ∧ r.2.mem ((c.tc : Thread Cert.MemKernelIdeal.nD Cert.MemKernelIdeal.τ).loc Cert.MemKernelIdeal.main_arg7) = m ((c.tc : Thread Cert.MemKernelIdeal.nD Cert.MemKernelIdeal.τ).loc Cert.MemKernelIdeal.main_arg7)
      ∧ r.2.mem ((c.tc : Thread Cert.MemKernelIdeal.nD Cert.MemKernelIdeal.τ).loc Cert.MemKernelIdeal.main_arg8) = m ((c.tc : Thread Cert.MemKernelIdeal.nD Cert.MemKernelIdeal.τ).loc Cert.MemKernelIdeal.main_arg8))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4)
      ∧ r.2.mem ((c.tc : Thread Cert.MemReferenceIdeal.nD Cert.MemReferenceIdeal.τ).loc Cert.MemReferenceIdeal.main_arg5) = m ((c.tc : Thread Cert.MemReferenceIdeal.nD Cert.MemReferenceIdeal.τ).loc Cert.MemReferenceIdeal.main_arg5)
      ∧ r.2.mem ((c.tc : Thread Cert.MemReferenceIdeal.nD Cert.MemReferenceIdeal.τ).loc Cert.MemReferenceIdeal.main_arg6) = m ((c.tc : Thread Cert.MemReferenceIdeal.nD Cert.MemReferenceIdeal.τ).loc Cert.MemReferenceIdeal.main_arg6)
      ∧ r.2.mem ((c.tc : Thread Cert.MemReferenceIdeal.nD Cert.MemReferenceIdeal.τ).loc Cert.MemReferenceIdeal.main_arg7) = m ((c.tc : Thread Cert.MemReferenceIdeal.nD Cert.MemReferenceIdeal.τ).loc Cert.MemReferenceIdeal.main_arg7)
      ∧ r.2.mem ((c.tc : Thread Cert.MemReferenceIdeal.nD Cert.MemReferenceIdeal.τ).loc Cert.MemReferenceIdeal.main_arg8) = m ((c.tc : Thread Cert.MemReferenceIdeal.nD Cert.MemReferenceIdeal.τ).loc Cert.MemReferenceIdeal.main_arg8))
      ∧ r.2.sem = fun _ => 0)

def quiescent_MemReferenceIdeal_pre_gains_finite [hMemReferenceIdeal : Cert.MemReferenceIdeal.Facts] [hPre_gains_finite : Cert.Pre_gains_finite.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_gains_finite m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4)
      ∧ r.2.mem ((c.tc : Thread Cert.MemReferenceIdeal.nD Cert.MemReferenceIdeal.τ).loc Cert.MemReferenceIdeal.main_arg5) = m ((c.tc : Thread Cert.MemReferenceIdeal.nD Cert.MemReferenceIdeal.τ).loc Cert.MemReferenceIdeal.main_arg5)
      ∧ r.2.mem ((c.tc : Thread Cert.MemReferenceIdeal.nD Cert.MemReferenceIdeal.τ).loc Cert.MemReferenceIdeal.main_arg6) = m ((c.tc : Thread Cert.MemReferenceIdeal.nD Cert.MemReferenceIdeal.τ).loc Cert.MemReferenceIdeal.main_arg6)
      ∧ r.2.mem ((c.tc : Thread Cert.MemReferenceIdeal.nD Cert.MemReferenceIdeal.τ).loc Cert.MemReferenceIdeal.main_arg7) = m ((c.tc : Thread Cert.MemReferenceIdeal.nD Cert.MemReferenceIdeal.τ).loc Cert.MemReferenceIdeal.main_arg7)
      ∧ r.2.mem ((c.tc : Thread Cert.MemReferenceIdeal.nD Cert.MemReferenceIdeal.τ).loc Cert.MemReferenceIdeal.main_arg8) = m ((c.tc : Thread Cert.MemReferenceIdeal.nD Cert.MemReferenceIdeal.τ).loc Cert.MemReferenceIdeal.main_arg8))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v5) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v44) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_OddKernel_OddKernelIdeal : Prop :=
  True

def algebraic_OddKernelIdeal_OddReferenceIdeal [hOddKernelIdeal : Cert.OddKernelIdeal.Facts] [hOddReferenceIdeal : Cert.OddReferenceIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddKernelIdeal m →
    (∀ c : Dev Cert.OddKernelIdeal.nD,
      m' ((c.tc : Thread Cert.OddReferenceIdeal.nD Cert.OddReferenceIdeal.τ).loc Cert.OddReferenceIdeal.main_arg0) = m ((c.tc : Thread Cert.OddKernelIdeal.nD Cert.OddKernelIdeal.τ).loc Cert.OddKernelIdeal.main_arg0)
      ∧ m' ((c.tc : Thread Cert.OddReferenceIdeal.nD Cert.OddReferenceIdeal.τ).loc Cert.OddReferenceIdeal.main_arg1) = m ((c.tc : Thread Cert.OddKernelIdeal.nD Cert.OddKernelIdeal.τ).loc Cert.OddKernelIdeal.main_arg1)
      ∧ m' ((c.tc : Thread Cert.OddReferenceIdeal.nD Cert.OddReferenceIdeal.τ).loc Cert.OddReferenceIdeal.main_arg2) = m ((c.tc : Thread Cert.OddKernelIdeal.nD Cert.OddKernelIdeal.τ).loc Cert.OddKernelIdeal.main_arg2)
      ∧ m' ((c.tc : Thread Cert.OddReferenceIdeal.nD Cert.OddReferenceIdeal.τ).loc Cert.OddReferenceIdeal.main_arg3) = m ((c.tc : Thread Cert.OddKernelIdeal.nD Cert.OddKernelIdeal.τ).loc Cert.OddKernelIdeal.main_arg3)
      ∧ m' ((c.tc : Thread Cert.OddReferenceIdeal.nD Cert.OddReferenceIdeal.τ).loc Cert.OddReferenceIdeal.main_arg4) = m ((c.tc : Thread Cert.OddKernelIdeal.nD Cert.OddKernelIdeal.τ).loc Cert.OddKernelIdeal.main_arg4)
      ∧ m' ((c.tc : Thread Cert.OddReferenceIdeal.nD Cert.OddReferenceIdeal.τ).loc Cert.OddReferenceIdeal.main_arg5) = m ((c.tc : Thread Cert.OddKernelIdeal.nD Cert.OddKernelIdeal.τ).loc Cert.OddKernelIdeal.main_arg5)) →
    ∃ (v0 : (c : Dev Cert.OddKernelIdeal.nD) → Buf (Elt Ideal) ((c.tc : Thread Cert.OddKernelIdeal.nD Cert.OddKernelIdeal.τ).loc Cert.OddKernelIdeal.main_v5)),
      θ_run (Cert.OddKernelIdeal.defs (F := Ideal)) (onTc (τ := Cert.OddKernelIdeal.τ) (Cert.OddKernelIdeal.main (F := Ideal))) ⟨m, fun _ => 0, g⟩ (fun r => ∀ c : Dev Cert.OddKernelIdeal.nD,
          r.2.mem ((c.tc : Thread Cert.OddKernelIdeal.nD Cert.OddKernelIdeal.τ).loc Cert.OddKernelIdeal.main_v5) = v0 c
          ∧ r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
          ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
          ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2)
          ∧ r.2.mem ((c.tc : Thread Cert.OddKernelIdeal.nD Cert.OddKernelIdeal.τ).loc Cert.OddKernelIdeal.main_arg3) = m ((c.tc : Thread Cert.OddKernelIdeal.nD Cert.OddKernelIdeal.τ).loc Cert.OddKernelIdeal.main_arg3)
          ∧ r.2.mem ((c.tc : Thread Cert.OddKernelIdeal.nD Cert.OddKernelIdeal.τ).loc Cert.OddKernelIdeal.main_arg4) = m ((c.tc : Thread Cert.OddKernelIdeal.nD Cert.OddKernelIdeal.τ).loc Cert.OddKernelIdeal.main_arg4)
          ∧ r.2.mem ((c.tc : Thread Cert.OddKernelIdeal.nD Cert.OddKernelIdeal.τ).loc Cert.OddKernelIdeal.main_arg5) = m ((c.tc : Thread Cert.OddKernelIdeal.nD Cert.OddKernelIdeal.τ).loc Cert.OddKernelIdeal.main_arg5))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v45) = v0 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2)
          ∧ r.2.mem ((c.tc : Thread Cert.OddReferenceIdeal.nD Cert.OddReferenceIdeal.τ).loc Cert.OddReferenceIdeal.main_arg3) = m' ((c.tc : Thread Cert.OddReferenceIdeal.nD Cert.OddReferenceIdeal.τ).loc Cert.OddReferenceIdeal.main_arg3)
          ∧ r.2.mem ((c.tc : Thread Cert.OddReferenceIdeal.nD Cert.OddReferenceIdeal.τ).loc Cert.OddReferenceIdeal.main_arg4) = m' ((c.tc : Thread Cert.OddReferenceIdeal.nD Cert.OddReferenceIdeal.τ).loc Cert.OddReferenceIdeal.main_arg4)
          ∧ r.2.mem ((c.tc : Thread Cert.OddReferenceIdeal.nD Cert.OddReferenceIdeal.τ).loc Cert.OddReferenceIdeal.main_arg5) = m' ((c.tc : Thread Cert.OddReferenceIdeal.nD Cert.OddReferenceIdeal.τ).loc Cert.OddReferenceIdeal.main_arg5))

def preserves_MemKernel_MemKernelIdeal : Prop :=
  True

def algebraic_MemKernelIdeal_MemReferenceIdeal_pre_gains_finite [hMemKernelIdeal : Cert.MemKernelIdeal.Facts] [hMemReferenceIdeal : Cert.MemReferenceIdeal.Facts] [hPre_gains_finite : Cert.Pre_gains_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal_gains_finite m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)
      ∧ m' ((c.tc : Thread Cert.MemReferenceIdeal.nD Cert.MemReferenceIdeal.τ).loc Cert.MemReferenceIdeal.main_arg4) = m ((c.tc : Thread Cert.MemKernelIdeal.nD Cert.MemKernelIdeal.τ).loc Cert.MemKernelIdeal.main_arg4)
      ∧ m' ((c.tc : Thread Cert.MemReferenceIdeal.nD Cert.MemReferenceIdeal.τ).loc Cert.MemReferenceIdeal.main_arg5) = m ((c.tc : Thread Cert.MemKernelIdeal.nD Cert.MemKernelIdeal.τ).loc Cert.MemKernelIdeal.main_arg5)
      ∧ m' ((c.tc : Thread Cert.MemReferenceIdeal.nD Cert.MemReferenceIdeal.τ).loc Cert.MemReferenceIdeal.main_arg6) = m ((c.tc : Thread Cert.MemKernelIdeal.nD Cert.MemKernelIdeal.τ).loc Cert.MemKernelIdeal.main_arg6)
      ∧ m' ((c.tc : Thread Cert.MemReferenceIdeal.nD Cert.MemReferenceIdeal.τ).loc Cert.MemReferenceIdeal.main_arg7) = m ((c.tc : Thread Cert.MemKernelIdeal.nD Cert.MemKernelIdeal.τ).loc Cert.MemKernelIdeal.main_arg7)
      ∧ m' ((c.tc : Thread Cert.MemReferenceIdeal.nD Cert.MemReferenceIdeal.τ).loc Cert.MemReferenceIdeal.main_arg8) = m ((c.tc : Thread Cert.MemKernelIdeal.nD Cert.MemKernelIdeal.τ).loc Cert.MemKernelIdeal.main_arg8)) →
    ∃ (v0 : (c : Dev Cert.MemKernelIdeal.nD) → Buf (Elt Ideal) ((c.tc : Thread Cert.MemKernelIdeal.nD Cert.MemKernelIdeal.τ).loc Cert.MemKernelIdeal.main_v12)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v12) = v0 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
          ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4)
          ∧ r.2.mem ((c.tc : Thread Cert.MemKernelIdeal.nD Cert.MemKernelIdeal.τ).loc Cert.MemKernelIdeal.main_arg5) = m ((c.tc : Thread Cert.MemKernelIdeal.nD Cert.MemKernelIdeal.τ).loc Cert.MemKernelIdeal.main_arg5)
          ∧ r.2.mem ((c.tc : Thread Cert.MemKernelIdeal.nD Cert.MemKernelIdeal.τ).loc Cert.MemKernelIdeal.main_arg6) = m ((c.tc : Thread Cert.MemKernelIdeal.nD Cert.MemKernelIdeal.τ).loc Cert.MemKernelIdeal.main_arg6)
          ∧ r.2.mem ((c.tc : Thread Cert.MemKernelIdeal.nD Cert.MemKernelIdeal.τ).loc Cert.MemKernelIdeal.main_arg7) = m ((c.tc : Thread Cert.MemKernelIdeal.nD Cert.MemKernelIdeal.τ).loc Cert.MemKernelIdeal.main_arg7)
          ∧ r.2.mem ((c.tc : Thread Cert.MemKernelIdeal.nD Cert.MemKernelIdeal.τ).loc Cert.MemKernelIdeal.main_arg8) = m ((c.tc : Thread Cert.MemKernelIdeal.nD Cert.MemKernelIdeal.τ).loc Cert.MemKernelIdeal.main_arg8))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v84) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3)
          ∧ r.2.mem ((c.tc : Thread Cert.MemReferenceIdeal.nD Cert.MemReferenceIdeal.τ).loc Cert.MemReferenceIdeal.main_arg4) = m' ((c.tc : Thread Cert.MemReferenceIdeal.nD Cert.MemReferenceIdeal.τ).loc Cert.MemReferenceIdeal.main_arg4)
          ∧ r.2.mem ((c.tc : Thread Cert.MemReferenceIdeal.nD Cert.MemReferenceIdeal.τ).loc Cert.MemReferenceIdeal.main_arg5) = m' ((c.tc : Thread Cert.MemReferenceIdeal.nD Cert.MemReferenceIdeal.τ).loc Cert.MemReferenceIdeal.main_arg5)
          ∧ r.2.mem ((c.tc : Thread Cert.MemReferenceIdeal.nD Cert.MemReferenceIdeal.τ).loc Cert.MemReferenceIdeal.main_arg6) = m' ((c.tc : Thread Cert.MemReferenceIdeal.nD Cert.MemReferenceIdeal.τ).loc Cert.MemReferenceIdeal.main_arg6)
          ∧ r.2.mem ((c.tc : Thread Cert.MemReferenceIdeal.nD Cert.MemReferenceIdeal.τ).loc Cert.MemReferenceIdeal.main_arg7) = m' ((c.tc : Thread Cert.MemReferenceIdeal.nD Cert.MemReferenceIdeal.τ).loc Cert.MemReferenceIdeal.main_arg7)
          ∧ r.2.mem ((c.tc : Thread Cert.MemReferenceIdeal.nD Cert.MemReferenceIdeal.τ).loc Cert.MemReferenceIdeal.main_arg8) = m' ((c.tc : Thread Cert.MemReferenceIdeal.nD Cert.MemReferenceIdeal.τ).loc Cert.MemReferenceIdeal.main_arg8))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v7_0)) (v1 : (c : Dev Cert.InKernelIdeal.nD) → Buf (Elt Ideal) ((c.tc : Thread Cert.InKernelIdeal.nD Cert.InKernelIdeal.τ).loc Cert.InKernelIdeal.main_v7_1)) (v2 : (c : Dev Cert.InKernelIdeal.nD) → Buf (Elt Ideal) ((c.tc : Thread Cert.InKernelIdeal.nD Cert.InKernelIdeal.τ).loc Cert.InKernelIdeal.main_v7_2)) (v3 : (c : Dev Cert.InKernelIdeal.nD) → Buf (Elt Ideal) ((c.tc : Thread Cert.InKernelIdeal.nD Cert.InKernelIdeal.τ).loc Cert.InKernelIdeal.main_v7_3)) (v4 : (c : Dev Cert.InKernelIdeal.nD) → Buf (Elt Ideal) ((c.tc : Thread Cert.InKernelIdeal.nD Cert.InKernelIdeal.τ).loc Cert.InKernelIdeal.main_v7_4)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v7_0) = v0 c
          ∧ r.2.mem ((c.tc : Thread Cert.InKernelIdeal.nD Cert.InKernelIdeal.τ).loc Cert.InKernelIdeal.main_v7_1) = v1 c
          ∧ r.2.mem ((c.tc : Thread Cert.InKernelIdeal.nD Cert.InKernelIdeal.τ).loc Cert.InKernelIdeal.main_v7_2) = v2 c
          ∧ r.2.mem ((c.tc : Thread Cert.InKernelIdeal.nD Cert.InKernelIdeal.τ).loc Cert.InKernelIdeal.main_v7_3) = v3 c
          ∧ r.2.mem ((c.tc : Thread Cert.InKernelIdeal.nD Cert.InKernelIdeal.τ).loc Cert.InKernelIdeal.main_v7_4) = v4 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v21) = v0 c
          ∧ r.2.mem ((c.tc : Thread Cert.InReferenceIdeal.nD Cert.InReferenceIdeal.τ).loc Cert.InReferenceIdeal.main_v23) = v1 c
          ∧ r.2.mem ((c.tc : Thread Cert.InReferenceIdeal.nD Cert.InReferenceIdeal.τ).loc Cert.InReferenceIdeal.main_v25) = v2 c
          ∧ r.2.mem ((c.tc : Thread Cert.InReferenceIdeal.nD Cert.InReferenceIdeal.τ).loc Cert.InReferenceIdeal.main_v26) = v3 c
          ∧ r.2.mem ((c.tc : Thread Cert.InReferenceIdeal.nD Cert.InReferenceIdeal.τ).loc Cert.InReferenceIdeal.main_v29) = v4 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v4)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v4) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v7) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def Claim : Prop :=
  ∃ (hFfnKernel : Cert.FfnKernel.Facts) (hFfnKernelIdeal : Cert.FfnKernelIdeal.Facts) (hFfnReferenceIdeal : Cert.FfnReferenceIdeal.Facts) (hOddKernel : Cert.OddKernel.Facts) (hOddKernelIdeal : Cert.OddKernelIdeal.Facts) (hOddReferenceIdeal : Cert.OddReferenceIdeal.Facts) (hMemKernel : Cert.MemKernel.Facts) (hMemKernelIdeal : Cert.MemKernelIdeal.Facts) (hMemReferenceIdeal : Cert.MemReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hPre_gains_finite : Cert.Pre_gains_finite.Facts),
    quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_OddKernel (hOddKernel := hOddKernel)
    ∧ quiescent_OddKernelIdeal (hOddKernelIdeal := hOddKernelIdeal)
    ∧ quiescent_OddReferenceIdeal (hOddReferenceIdeal := hOddReferenceIdeal)
    ∧ quiescent_MemKernel (hMemKernel := hMemKernel)
    ∧ quiescent_MemKernelIdeal (hMemKernelIdeal := hMemKernelIdeal)
    ∧ quiescent_MemKernelIdeal_pre_gains_finite (hMemKernelIdeal := hMemKernelIdeal) (hPre_gains_finite := hPre_gains_finite)
    ∧ quiescent_MemReferenceIdeal (hMemReferenceIdeal := hMemReferenceIdeal)
    ∧ quiescent_MemReferenceIdeal_pre_gains_finite (hMemReferenceIdeal := hMemReferenceIdeal) (hPre_gains_finite := hPre_gains_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_OddKernel_OddKernelIdeal
    ∧ algebraic_OddKernelIdeal_OddReferenceIdeal (hOddKernelIdeal := hOddKernelIdeal) (hOddReferenceIdeal := hOddReferenceIdeal)
    ∧ preserves_MemKernel_MemKernelIdeal
    ∧ algebraic_MemKernelIdeal_MemReferenceIdeal_pre_gains_finite (hMemKernelIdeal := hMemKernelIdeal) (hMemReferenceIdeal := hMemReferenceIdeal) (hPre_gains_finite := hPre_gains_finite)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal)
-- ==== Pre_gains_finite.lean ====
abbrev S8x4096x1024 : Shape := ⟨3, ![8, 4096, 1024]⟩
abbrev S8x256x1024 : Shape := ⟨3, ![8, 256, 1024]⟩
abbrev S1024 : Shape := ⟨1, ![1024]⟩
abbrev S4x1024 : Shape := ⟨2, ![4, 1024]⟩
abbrev S1024x512 : Shape := ⟨2, ![1024, 512]⟩
abbrev S4x1024x1024 : Shape := ⟨3, ![4, 1024, 1024]⟩
abbrev S512x1024 : Shape := ⟨2, ![512, 1024]⟩
abbrev S128 : Shape := ⟨1, ![128]⟩
abbrev S4x128 : Shape := ⟨2, ![4, 128]⟩
abbrev S_ : Shape := ⟨0, ![]⟩
abbrev S1x128 : Shape := ⟨2, ![1, 128]⟩

class Facts : Prop where
  bcast_S_S128 : S_.BroadcastsInDim S128 (![] : Fin 0 → Fin S128.rank)
  slices_S4x128_S1x128_3_0 : S4x128.Slices ![3, 0] S1x128
  shapeCasts_S1x128_S128 : S1x128.ShapeCasts S128

variable [Facts]

def fn {F : FTy → Type} [FloatOps F] (main_arg0 : FVec F S8x4096x1024 .f32) (main_arg1 : FVec F S8x256x1024 .f32) (main_arg2 : FVec F S1024 .f32) (main_arg3 : FVec F S4x1024 .f32) (main_arg4 : FVec F S1024x512 .f32) (main_arg5 : FVec F S4x1024x1024 .f32) (main_arg6 : FVec F S512x1024 .f32) (main_arg7 : FVec F S128 .f32) (main_arg8 : FVec F S4x128 .f32) : IVec S128 1 :=
  let main_v0 : FVec F S128 .f32 := Host.absf main_arg7
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S1x128 .f32 := (extractStridedSlice S1x128 ![3, 0] · slices_S4x128_S1x128_3_0) main_arg8
  let main_v4 : FVec F S128 .f32 := shapeCast S128 main_v3 shapeCasts_S1x128_S128
  let main_v5 : FVec F S128 .f32 := Host.absf main_v4
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_v8 : IVec S128 1 := andi main_v2 main_v7
  main_v8
-- ==== FfnKernel.lean ====
abbrev S8x4096x1024 : Shape := ⟨3, ![8, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32768x1024 : Shape := ⟨2, ![32768, 1024]⟩
abbrev S1x1024 : Shape := ⟨2, ![1, 1024]⟩
abbrev S1x2816 : Shape := ⟨2, ![1, 2816]⟩
abbrev S256x1024 : Shape := ⟨2, ![256, 1024]⟩
abbrev S264x2816 : Shape := ⟨2, ![264, 2816]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩
abbrev S8x2816 : Shape := ⟨2, ![8, 2816]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S32768x1024, .f32⟩
  | .hbm, ⟨7, _⟩ => ⟨S1x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S264x2816, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnReferenceIdeal.lean ====
abbrev S8x4096x1024 : Shape := ⟨3, ![8, 4096, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S8x4098x2816 : Shape := ⟨3, ![8, 4098, 2816]⟩
abbrev S1x2816 : Shape := ⟨2, ![1, 2816]⟩
abbrev S1x1x2816 : Shape := ⟨3, ![1, 1, 2816]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x4096x5632, .f32⟩
  | .hbm, ⟨23, _⟩ => ⟨S8x4096x2816, .f32⟩
  | .hbm, ⟨24, _⟩ => ⟨S8x4096x2816, .f32⟩
  | .hbm, ⟨25, _⟩ => ⟨S_, .i32⟩
  | .hbm, ⟨26, _⟩ => ⟨S_, .f32⟩
  | .hbm, ⟨27, _⟩ => ⟨S8x4098x2816, .f32⟩
  | .hbm, ⟨28, _⟩ => ⟨S1x2816, .f32⟩
  | .hbm, ⟨29, _⟩ => ⟨S2816, .f32⟩
  | .hbm, ⟨30, _⟩ => ⟨S8x4096x2816, .f32⟩
  | .hbm, ⟨31, _⟩ => ⟨S1x1x2816, .f32⟩
  | .hbm, ⟨32, _⟩ => ⟨S8x4096x2816, .f32⟩
  | .hbm, ⟨33, _⟩ => ⟨S8x4096x2816, .f32⟩
  | .hbm, ⟨34, _⟩ => ⟨S1x2816, .f32⟩
  | .hbm, ⟨35, _⟩ => ⟨S2816, .f32⟩
  | .hbm, ⟨36, _⟩ => ⟨S8x4096x2816, .f32⟩
  | .hbm, ⟨37, _⟩ => ⟨S1x1x2816, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S1x2816, .f32⟩
  | .hbm, ⟨42, _⟩ => ⟨S2816, .f32⟩
  | .hbm, ⟨43, _⟩ => ⟨S8x4096x2816, .f32⟩
  | .hbm, ⟨44, _⟩ => ⟨S1x1x2816, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S1x1x2816, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S_, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x1024, .f32⟩
  | .hbm, ⟨62, _⟩ => ⟨S8x4096x1024, .f32⟩
  | .hbm, ⟨63, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== OddKernel.lean ====
abbrev S8x4096x1024 : Shape := ⟨3, ![8, 4096, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S32768x1024 : Shape := ⟨2, ![32768, 1024]⟩
abbrev S1x1024 : Shape := ⟨2, ![1, 1024]⟩
abbrev S256x1024 : Shape := ⟨2, ![256, 1024]⟩
abbrev S264x1024 : Shape := ⟨2, ![264, 1024]⟩
abbrev S256 : Shape := ⟨1, ![256]⟩
abbrev S256x1 : Shape := ⟨2, ![256, 1]⟩
abbrev S256x3072 : Shape := ⟨2, ![256, 3072]⟩
abbrev S8x1024 : Shape := ⟨2, ![8, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024, .f32⟩
  | .hbm, ⟨5, _⟩ => ⟨S1024x1024, .f32⟩
  | .hbm, ⟨6, _⟩ => ⟨S32768x1024, .f32⟩
  | .hbm, ⟨7, _⟩ => ⟨S1x1024, .f32⟩
  | .hbm, ⟨8, _⟩ => ⟨S1024x3072, .bf16⟩
  | .hbm, ⟨9, _⟩ => ⟨S1x1024, .f32⟩
  | .hbm, ⟨10, _⟩ => ⟨S1024x1024, .bf16⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S3x1024, .f32⟩
  | .local _ .vmem, ⟨5, _⟩ => ⟨S1x1024, .f32⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | .local _ .vmem, ⟨9, _⟩ => ⟨S264x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OddReferenceIdeal.lean ====
abbrev S8x4096x1024 : Shape := ⟨3, ![8, 4096, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S8x4098x1024 : Shape := ⟨3, ![8, 4098, 1024]⟩
abbrev S1x1024 : Shape := ⟨2, ![1, 1024]⟩
abbrev S32768x1024 : Shape := ⟨2, ![32768, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024, .f32⟩
  | .hbm, ⟨5, _⟩ => ⟨S1024x1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x4096x3072, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S_, .i32⟩
  | .hbm, ⟨28, _⟩ => ⟨S_, .f32⟩
  | .hbm, ⟨29, _⟩ => ⟨S8x4098x1024, .f32⟩
  | .hbm, ⟨30, _⟩ => ⟨S1x1024, .f32⟩
  | .hbm, ⟨31, _⟩ => ⟨S1024, .f32⟩
  | .hbm, ⟨32, _⟩ => ⟨S8x4096x1024, .f32⟩
  | .hbm, ⟨33, _⟩ => ⟨S1x1x1024, .f32⟩
  | .hbm, ⟨34, _⟩ => ⟨S8x4096x1024, .f32⟩
  | .hbm, ⟨35, _⟩ => ⟨S8x4096x1024, .f32⟩
  | .hbm, ⟨36, _⟩ => ⟨S1x1024, .f32⟩
  | .hbm, ⟨37, _⟩ => ⟨S1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S1x1024, .f32⟩
  | .hbm, ⟨44, _⟩ => ⟨S1024, .f32⟩
  | .hbm, ⟨45, _⟩ => ⟨S8x4096x1024, .f32⟩
  | .hbm, ⟨46, _⟩ => ⟨S1x1x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S1x1x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== MemKernel.lean ====
abbrev S8x4096x1024 : Shape := ⟨3, ![8, 4096, 1024]⟩
abbrev S8x256x1024 : Shape := ⟨3, ![8, 256, 1024]⟩
abbrev S1024 : Shape := ⟨1, ![1024]⟩
abbrev S4x1024 : Shape := ⟨2, ![4, 1024]⟩
abbrev S1024x512 : Shape := ⟨2, ![1024, 512]⟩
abbrev S4x1024x1024 : Shape := ⟨3, ![4, 1024, 1024]⟩
abbrev S512x1024 : Shape := ⟨2, ![512, 1024]⟩
abbrev S128 : Shape := ⟨1, ![128]⟩
abbrev S4x128 : Shape := ⟨2, ![4, 128]⟩
abbrev S2048x1024 : Shape := ⟨2, ![2048, 1024]⟩
abbrev S4x1x1024 : Shape := ⟨3, ![4, 1, 1024]⟩
abbrev S4x1x128 : Shape := ⟨3, ![4, 1, 128]⟩
abbrev S4x2048x512 : Shape := ⟨3, ![4, 2048, 512]⟩
abbrev S1x1x1024 : Shape := ⟨3, ![1, 1, 1024]⟩
abbrev S1x1024x1024 : Shape := ⟨3, ![1, 1024, 1024]⟩
abbrev S1x1x128 : Shape := ⟨3, ![1, 1, 128]⟩
abbrev S1x2048x512 : Shape := ⟨3, ![1, 2048, 512]⟩
abbrev S1x1024 : Shape := ⟨2, ![1, 1024]⟩
abbrev S2048 : Shape := ⟨1, ![2048]⟩
abbrev S2048x1 : Shape := ⟨2, ![2048, 1]⟩
abbrev S1024x1024 : Shape := ⟨2, ![1024, 1024]⟩
abbrev S2048x128 : Shape := ⟨2, ![2048, 128]⟩
abbrev S1x128 : Shape := ⟨2, ![1, 128]⟩
abbrev S2048x512 : Shape := ⟨2, ![2048, 512]⟩
abbrev S32x256x512 : Shape := ⟨3, ![32, 256, 512]⟩
abbrev S32768x1024 : Shape := ⟨2, ![32768, 1024]⟩
abbrev S256x1024 : Shape := ⟨2, ![256, 1024]⟩
abbrev S1x256x512 : Shape := ⟨3, ![1, 256, 512]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S256x256 : Shape := ⟨2, ![256, 256]⟩

abbrev nBuf : Space → Nat
  | .hbm => 23
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S4x1024, .f32⟩
  | .hbm, ⟨4, _⟩ => ⟨S1024x512, .f32⟩
  | .hbm, ⟨5, _⟩ => ⟨S4x1024x1024, .f32⟩
  | .hbm, ⟨6, _⟩ => ⟨S512x1024, .f32⟩
  | .hbm, ⟨7, _⟩ => ⟨S128, .f32⟩
  | .hbm, ⟨8, _⟩ => ⟨S4x128, .f32⟩
  | .hbm, ⟨9, _⟩ => ⟨S2048x1024, .f32⟩
  | .hbm, ⟨10, _⟩ => ⟨S4x1x1024, .f32⟩
  | .hbm, ⟨11, _⟩ => ⟨S4x1024x1024, .bf16⟩
  | .hbm, ⟨12, _⟩ => ⟨S4x1x128, .f32⟩
  | .hbm, ⟨13, _⟩ => ⟨S4x2048x512, .bf16⟩
  | .hbm, ⟨14, _⟩ => ⟨S4x2048x512, .bf16⟩
  | .hbm, ⟨15, _⟩ => ⟨S32x256x512, .bf16⟩
  | .hbm, ⟨16, _⟩ => ⟨S32x256x512, .bf16⟩
  | .hbm, ⟨17, _⟩ => ⟨S32768x1024, .f32⟩
  | .hbm, ⟨18, _⟩ => ⟨S1x1024, .f32⟩
  | .hbm, ⟨19, _⟩ => ⟨S1024x512, .bf16⟩
  | .hbm, ⟨20, _⟩ => ⟨S1x128, .f32⟩
  | .hbm, ⟨21, _⟩ => ⟨S512x1024, .bf16⟩
  | .hbm, ⟨22, _⟩ => ⟨S32768x1024, .f32⟩
  | .local _ .vmem, ⟨0, _⟩ => ⟨S2048x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1x128, .f32⟩
  | .local _ .vmem, ⟨6, _⟩ => ⟨S1x1x128, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1024x512, .bf16⟩
  | .local _ .vmem, ⟨15, _⟩ => ⟨S1x128, .f32⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S512x1024, .bf16⟩
  | .local _ .vmem, ⟨21, _⟩ => ⟨S256x1024, .f32⟩
  | .local _ .vmem, ⟨22, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![v0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S512x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== MemReferenceIdeal.lean ====
abbrev S8x4096x1024 : Shape := ⟨3, ![8, 4096, 1024]⟩
abbrev S8x256x1024 : Shape := ⟨3, ![8, 256, 1024]⟩
abbrev S1024 : Shape := ⟨1, ![1024]⟩
abbrev S4x1024 : Shape := ⟨2, ![4, 1024]⟩
abbrev S1024x512 : Shape := ⟨2, ![1024, 512]⟩
abbrev S4x1024x1024 : Shape := ⟨3, ![4, 1024, 1024]⟩
abbrev S512x1024 : Shape := ⟨2, ![512, 1024]⟩
abbrev S128 : Shape := ⟨1, ![128]⟩
abbrev S4x128 : Shape := ⟨2, ![4, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024 : Shape := ⟨2, ![1, 1024]⟩
abbrev S8x256 : Shape := ⟨2, ![8, 256]⟩
abbrev S8x256x1 : Shape := ⟨3, ![8, 256, 1]⟩
abbrev S8x4096x512 : Shape := ⟨3, ![8, 4096, 512]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S1x1024x1024 : Shape := ⟨3, ![1, 1024, 1024]⟩
abbrev S1024x1024 : Shape := ⟨2, ![1024, 1024]⟩
abbrev S8x256x512 : Shape := ⟨3, ![8, 256, 512]⟩
abbrev S8x256x4x128 : Shape := ⟨4, ![8, 256, 4, 128]⟩
abbrev S1x128 : Shape := ⟨2, ![1, 128]⟩
abbrev S8x256x4 : Shape := ⟨3, ![8, 256, 4]⟩
abbrev S8x256x4x1 : Shape := ⟨4, ![8, 256, 4, 1]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S32768x1024 : Shape := ⟨2, ![32768, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S1024, .f32⟩
  | .hbm, ⟨3, _⟩ => ⟨S4x1024, .f32⟩
  | .hbm, ⟨4, _⟩ => ⟨S1024x512, .f32⟩
  | .hbm, ⟨5, _⟩ => ⟨S4x1024x1024, .f32⟩
  | .hbm, ⟨6, _⟩ => ⟨S512x1024, .f32⟩
  | .hbm, ⟨7, _⟩ => ⟨S128, .f32⟩
  | .hbm, ⟨8, _⟩ => ⟨S4x128, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S1x1024, .f32⟩
  | .hbm, ⟨26, _⟩ => ⟨S1024, .f32⟩
  | .hbm, ⟨27, _⟩ => ⟨S8x256x1024, .f32⟩
  | .hbm, ⟨28, _⟩ => ⟨S_, .f32⟩
  | .hbm, ⟨29, _⟩ => ⟨S8x256, .f32⟩
  | .hbm, ⟨30, _⟩ => ⟨S8x256x1, .f32⟩
  | .hbm, ⟨31, _⟩ => ⟨S_, .f32⟩
  | .hbm, ⟨32, _⟩ => ⟨S8x256x1, .f32⟩
  | .hbm, ⟨33, _⟩ => ⟨S8x256x1, .f32⟩
  | .hbm, ⟨34, _⟩ => ⟨S_, .f32⟩
  | .hbm, ⟨35, _⟩ => ⟨S8x256x1, .f32⟩
  | .hbm, ⟨36, _⟩ => ⟨S8x256x1, .f32⟩
  | .hbm, ⟨37, _⟩ => ⟨S8x256x1, .f32⟩
  | .hbm, ⟨38, _⟩ => ⟨S8x256x1024, .f32⟩
  | .hbm, ⟨39, _⟩ => ⟨S8x256x1024, .f32⟩
  | .hbm, ⟨40, _⟩ => ⟨S1x1x1024, .f32⟩
  | .hbm, ⟨41, _⟩ => ⟨S8x256x1024, .f32⟩
  | .hbm, ⟨42, _⟩ => ⟨S8x256x1024, .f32⟩
  | .hbm, ⟨43, _⟩ => ⟨S8x4096x512, .f32⟩
  | .hbm, ⟨44, _⟩ => ⟨S8x4096x4x128, .f32⟩
  | .hbm, ⟨45, _⟩ => ⟨S8x4096x4x128, .f32⟩
  | .hbm, ⟨46, _⟩ => ⟨S_, .f32⟩
  | .hbm, ⟨47, _⟩ => ⟨S8x4096x4, .f32⟩
  | .hbm, ⟨48, _⟩ => ⟨S8x4096x4x1, .f32⟩
  | .hbm, ⟨49, _⟩ => ⟨S_, .f32⟩
  | .hbm, ⟨50, _⟩ => ⟨S8x4096x4x1, .f32⟩
  | .hbm, ⟨51, _⟩ => ⟨S8x4096x4x1, .f32⟩
  | .hbm, ⟨52, _⟩ => ⟨S_, .f32⟩
  | .hbm, ⟨53, _⟩ => ⟨S8x4096x4x1, .f32⟩
  | .hbm, ⟨54, _⟩ => ⟨S8x4096x4x1, .f32⟩
  | .hbm, ⟨55, _⟩ => ⟨S8x4096x4x1, .f32⟩
  | .hbm, ⟨56, _⟩ => ⟨S8x4096x4x128, .f32⟩
  | .hbm, ⟨57, _⟩ => ⟨S8x4096x4x128, .f32⟩
  | .hbm, ⟨58, _⟩ => ⟨S1x1x1x128, .f32⟩
  | .hbm, ⟨59, _⟩ => ⟨S8x4096x4x128, .f32⟩
  | .hbm, ⟨60, _⟩ => ⟨S8x4096x4x128, .f32⟩
  | .hbm, ⟨61, _⟩ => ⟨S1x1024x1024, .f32⟩
  | .hbm, ⟨62, _⟩ => ⟨S1024x1024, .f32⟩
  | .hbm, ⟨63, _⟩ => ⟨S8x256x1024, .f32⟩
  | .hbm, ⟨64, _⟩ => ⟨S8x256x512, .f32⟩
  | .hbm, ⟨65, _⟩ => ⟨S8x256x512, .f32⟩
  | .hbm, ⟨66, _⟩ => ⟨S8x256x4x128, .f32⟩
  | .hbm, ⟨67, _⟩ => ⟨S1x128, .f32⟩
  | .hbm, ⟨68, _⟩ => ⟨S128, .f32⟩
  | .hbm, ⟨69, _⟩ => ⟨S8x256x4x128, .f32⟩
  | .hbm, ⟨70, _⟩ => ⟨S_, .f32⟩
  | .hbm, ⟨71, _⟩ => ⟨S8x256x4, .f32⟩
  | .hbm, ⟨72, _⟩ => ⟨S8x256x4x1, .f32⟩
  | .hbm, ⟨73, _⟩ => ⟨S_, .f32⟩
  | .hbm, ⟨74, _⟩ => ⟨S8x256x4x1, .f32⟩
  | .hbm, ⟨75, _⟩ => ⟨S8x256x4x1, .f32⟩
  | .hbm, ⟨76, _⟩ => ⟨S_, .f32⟩
  | .hbm, ⟨77, _⟩ => ⟨S8x256x4x1, .f32⟩
  | .hbm, ⟨78, _⟩ => ⟨S8x256x4x1, .f32⟩
  | .hbm, ⟨79, _⟩ => ⟨S8x256x4x1, .f32⟩
  | .hbm, ⟨80, _⟩ => ⟨S8x256x4x128, .f32⟩
  | .hbm, ⟨81, _⟩ => ⟨S8x256x4x128, .f32⟩
  | .hbm, ⟨82, _⟩ => ⟨S1x1x1x128, .f32⟩
  | .hbm, ⟨83, _⟩ => ⟨S8x256x4x128, .f32⟩
  | .hbm, ⟨84, _⟩ => ⟨S8x256x4x128, .f32⟩
  | .hbm, ⟨85, _⟩ => ⟨S8x256x4x128, .f32⟩
  | .hbm, ⟨86, _⟩ => ⟨S8x4x4096x256, .f32⟩
  | .hbm, ⟨87, _⟩ => ⟨S_, .f32⟩
  | .hbm, ⟨88, _⟩ => ⟨S8x4x4096x256, .f32⟩
  | .hbm, ⟨89, _⟩ => ⟨S8x4x4096x256, .f32⟩
  | .hbm, ⟨90, _⟩ => ⟨S_, .f32⟩
  | .hbm, ⟨91, _⟩ => ⟨S8x4x4096, .f32⟩
  | .hbm, ⟨92, _⟩ => ⟨S_, .f32⟩
  | .hbm, ⟨93, _⟩ => ⟨S8x4x4096, .f32⟩
  | .hbm, ⟨94, _⟩ => ⟨S8x4x4096, .f32⟩
  | .hbm, ⟨95, _⟩ => ⟨S8x4x4096x1, .f32⟩
  | .hbm, ⟨96, _⟩ => ⟨S8x4x4096x256, .f32⟩
  | .hbm, ⟨97, _⟩ => ⟨S8x4x4096x256, .f32⟩
  | .hbm, ⟨98, _⟩ => ⟨S8x4x4096x256, .f32⟩
  | .hbm, ⟨99, _⟩ => ⟨S_, .f32⟩
  | .hbm, ⟨100, _⟩ => ⟨S8x4x4096, .f32⟩
  | .hbm, ⟨101, _⟩ => ⟨S8x4x4096x1, .f32⟩
  | .hbm, ⟨102, _⟩ => ⟨S8x4x4096x256, .f32⟩
  | .hbm, ⟨103, _⟩ => ⟨S8x4x4096x256, .f32⟩
  | .hbm, ⟨104, _⟩ => ⟨S8x4x128x4096, .f32⟩
  | .hbm, ⟨105, _⟩ => ⟨S8x4096x4x128, .f32⟩
  | .hbm, ⟨106, _⟩ => ⟨S8x4096x512, .f32⟩
  | .hbm, ⟨107, _⟩ => ⟨S8x4096x1024, .f32⟩
  | .hbm, ⟨108, _⟩ => ⟨S8x4096x1024, .f32⟩
  | .hbm, ⟨109, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_11 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== InKernel.lean ====
abbrev S8x4096x1024 : Shape := ⟨3, ![8, 4096, 1024]⟩
abbrev S1024 : Shape := ⟨1, ![1024]⟩
abbrev S1024x1476 : Shape := ⟨2, ![1024, 1476]⟩
abbrev S32768x1024 : Shape := ⟨2, ![32768, 1024]⟩
abbrev S1x1024 : Shape := ⟨2, ![1, 1024]⟩
abbrev S_ : Shape := ⟨0, ![]⟩
abbrev S1024x60 : Shape := ⟨2, ![1024, 60]⟩
abbrev S1024x964 : Shape := ⟨2, ![1024, 964]⟩
abbrev S1024x512 : Shape := ⟨2, ![1024, 512]⟩
abbrev S1024x1536 : Shape := ⟨2, ![1024, 1536]⟩
abbrev S32768x512 : Shape := ⟨2, ![32768, 512]⟩
abbrev S32768x128 : Shape := ⟨2, ![32768, 128]⟩
abbrev S32768x256 : Shape := ⟨2, ![32768, 256]⟩
abbrev S4096x4096 : Shape := ⟨2, ![4096, 4096]⟩
abbrev S512x1024 : Shape := ⟨2, ![512, 1024]⟩
abbrev S512x512 : Shape := ⟨2, ![512, 512]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x1536 : Shape := ⟨2, ![512, 1536]⟩

abbrev nBuf : Space → Nat
  | .hbm => 16
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x1476, .f32⟩
  | .hbm, ⟨3, _⟩ => ⟨S32768x1024, .f32⟩
  | .hbm, ⟨4, _⟩ => ⟨S1x1024, .f32⟩
  | .hbm, ⟨5, _⟩ => ⟨S_, .f32⟩
  | .hbm, ⟨6, _⟩ => ⟨S1024x60, .f32⟩
  | .hbm, ⟨7, _⟩ => ⟨S1024x964, .f32⟩
  | .hbm, ⟨8, _⟩ => ⟨S1024x512, .f32⟩
  | .hbm, ⟨9, _⟩ => ⟨S1024x1536, .f32⟩
  | .hbm, ⟨10, _⟩ => ⟨S1024x1536, .bf16⟩
  | .hbm, ⟨11, _⟩ => ⟨S32768x512, .bf16⟩
  | .hbm, ⟨12, _⟩ => ⟨S32768x128, .bf16⟩
  | .hbm, ⟨13, _⟩ => ⟨S32768x256, .bf16⟩
  | .hbm, ⟨14, _⟩ => ⟨S32768x128, .f32⟩
  | .hbm, ⟨15, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S512x256, .bf16⟩
  | .local _ .vmem, ⟨9, _⟩ => ⟨S512x256, .bf16⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InReferenceIdeal.lean ====
abbrev S8x4096x1024 : Shape := ⟨3, ![8, 4096, 1024]⟩
abbrev S1024 : Shape := ⟨1, ![1024]⟩
abbrev S1024x1476 : Shape := ⟨2, ![1024, 1476]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1476 : Shape := ⟨3, ![8, 4096, 1476]⟩
abbrev S8x4096x512 : Shape := ⟨3, ![8, 4096, 512]⟩
abbrev S8x4096x128 : Shape := ⟨3, ![8, 4096, 128]⟩
abbrev S8x4096x256 : Shape := ⟨3, ![8, 4096, 256]⟩
abbrev S8x4096x68 : Shape := ⟨3, ![8, 4096, 68]⟩
abbrev S32768x512 : Shape := ⟨2, ![32768, 512]⟩
abbrev S32768x128 : Shape := ⟨2, ![32768, 128]⟩
abbrev S32768x256 : Shape := ⟨2, ![32768, 256]⟩
abbrev S4096x8x512 : Shape := ⟨3, ![4096, 8, 512]⟩
abbrev S4096x4096 : Shape := ⟨2, ![4096, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x1476, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x1476, .f32⟩
  | .hbm, ⟨20, _⟩ => ⟨S8x4096x512, .f32⟩
  | .hbm, ⟨21, _⟩ => ⟨S8x4096x128, .f32⟩
  | .hbm, ⟨22, _⟩ => ⟨S8x4096x256, .f32⟩
  | .hbm, ⟨23, _⟩ => ⟨S8x4096x68, .f32⟩
  | .hbm, ⟨24, _⟩ => ⟨S8x4096x512, .f32⟩
  | .hbm, ⟨25, _⟩ => ⟨S_, .i32⟩
  | .hbm, ⟨26, _⟩ => ⟨S_, .f32⟩
  | .hbm, ⟨27, _⟩ => ⟨S8x4096x128, .f32⟩
  | .hbm, ⟨28, _⟩ => ⟨S32768x512, .f32⟩
  | .hbm, ⟨29, _⟩ => ⟨S32768x512, .bf16⟩
  | .hbm, ⟨30, _⟩ => ⟨S32768x128, .f32⟩
  | .hbm, ⟨31, _⟩ => ⟨S32768x128, .bf16⟩
  | .hbm, ⟨32, _⟩ => ⟨S32768x256, .f32⟩
  | .hbm, ⟨33, _⟩ => ⟨S32768x256, .bf16⟩
  | .hbm, ⟨34, _⟩ => ⟨S32768x128, .f32⟩
  | .hbm, ⟨35, _⟩ => ⟨S4096x8x512, .f32⟩
  | .hbm, ⟨36, _⟩ => ⟨S4096x4096, .f32⟩
  | .hbm, ⟨37, _⟩ => ⟨S4096x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== OutKernel.lean ====
abbrev S8x4096x1024 : Shape := ⟨3, ![8, 4096, 1024]⟩
abbrev S32768x512 : Shape := ⟨2, ![32768, 512]⟩
abbrev S4096x4096 : Shape := ⟨2, ![4096, 4096]⟩
abbrev S1024x1024 : Shape := ⟨2, ![1024, 1024]⟩
abbrev S32768x1024 : Shape := ⟨2, ![32768, 1024]⟩
abbrev S512x1024 : Shape := ⟨2, ![512, 1024]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S4096x4096, .bf16⟩
  | .hbm, ⟨3, _⟩ => ⟨S1024x1024, .f32⟩
  | .hbm, ⟨4, _⟩ => ⟨S1024x1024, .bf16⟩
  | .hbm, ⟨5, _⟩ => ⟨S32768x1024, .f32⟩
  | .hbm, ⟨6, _⟩ => ⟨S512x1024, .bf16⟩
  | .hbm, ⟨7, _⟩ => ⟨S512x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutReferenceIdeal.lean ====
abbrev S8x4096x1024 : Shape := ⟨3, ![8, 4096, 1024]⟩
abbrev S32768x512 : Shape := ⟨2, ![32768, 512]⟩
abbrev S4096x4096 : Shape := ⟨2, ![4096, 4096]⟩
abbrev S1024x1024 : Shape := ⟨2, ![1024, 1024]⟩
abbrev S4096x8x512 : Shape := ⟨3, ![4096, 8, 512]⟩
abbrev S8x4096x512 : Shape := ⟨3, ![8, 4096, 512]⟩
abbrev S32768x1024 : Shape := ⟨2, ![32768, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S4096x4096, .bf16⟩
  | .hbm, ⟨3, _⟩ => ⟨S1024x1024, .f32⟩
  | .hbm, ⟨4, _⟩ => ⟨S4096x8x512, .bf16⟩
  | .hbm, ⟨5, _⟩ => ⟨S8x4096x512, .bf16⟩
  | .hbm, ⟨6, _⟩ => ⟨S8x4096x512, .bf16⟩
  | .hbm, ⟨7, _⟩ => ⟨S8x4096x1024, .bf16⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.FfnSpec.lean ====
/-
The feed-forward sub-layer as one closed form over the extended reals, stated over plain tables: both the kernel's result array and the
reference's are shown to be it.
-/
module

public import Idealize.ShloMosaic.Lib.Pointwise

@[expose] public section

noncomputable section

namespace Cert.FfnSpec

open Idealize.ShloMosaic

/-- One element of the up-projection of a row `x`: the row scaled by the reciprocal root of its mean square and by `g`, against a
    column `w`. -/
def proj (x g w : Fin 1024 → EReal) : EReal :=
  ∑ k : Fin 1024, x k * Ideal.rsqrt (Ideal.div (∑ l : Fin 1024, x l * x l) (Ideal.ofBits FTy.f32 1149239296#32) +
    Ideal.ofBits FTy.f32 897988541#32) * g k * w k

/-- The width-three causal convolution of one column from its input `g` and the inputs one and two steps earlier. -/
def conv (w0 w1 w2 b g2 g1 g : EReal) : EReal := w0 * g2 + w1 * g1 + w2 * g + b

/-- The residual plus the down-projection of the convolved half, passed through `z / (1 + exp (-z))`, times the other half `u`. -/
def glu (x : EReal) (z u wd : Fin 2816 → EReal) : EReal :=
  x + ∑ j : Fin 2816, (z j * Ideal.div 1 (1 + Ideal.exp (0 - z j)) * u j) * wd j

/-- The convolution's input at time `τ - k`, zero before the sequence begins. -/
def back (x : Fin 4096 → Fin 1024 → EReal) (g : Fin 1024 → EReal) (w : Fin 1024 → EReal) (τ k : ℕ) : EReal :=
  if h : k ≤ τ ∧ τ < 4096 then proj (x ⟨τ - k, by omega⟩) g w else 0

/-- The sub-layer's output for one sequence `x` at time `τ`, column `f`. -/
def layer (x : Fin 4096 → Fin 1024 → EReal) (g : Fin 1024 → EReal) (wu : Fin 1024 → Fin 5632 → EReal) (cw : Fin 3 → Fin 2816 → EReal)
    (cb : Fin 2816 → EReal) (wd : Fin 2816 → Fin 1024 → EReal) (τ : Fin 4096) (f : Fin 1024) : EReal :=
  glu (x τ f)
    (fun j => conv (cw 0 j) (cw 1 j) (cw 2 j) (cb j) (back x g (fun k => wu k ⟨j.val, by omega⟩) τ.val 2)
      (back x g (fun k => wu k ⟨j.val, by omega⟩) τ.val 1) (back x g (fun k => wu k ⟨j.val, by omega⟩) τ.val 0))
    (fun j => proj (x τ) g (fun k => wu k ⟨2816 + j.val, by omega⟩)) (fun j => wd j f)

end Cert.FfnSpec
-- ==== Proof.Pieces.lean ====
/-
What a buffer filled store by store holds at an index: the last store covering it.
-/
module

public import Idealize.ShloMosaic.Lib.Pipeline.ValueKit
public import Idealize.ShloMosaic.Lib.Pipeline.ReadBack

@[expose] public section

namespace Cert.Pieces

open Idealize.ShloMosaic

/-- Under the last store, a buffer filled piece by piece holds that store's payload. -/
theorem canon_hit {s : Shape} {e : EltTy} {Val : EltTy → Type} [∀ e, Nonempty (Val e)] (r : Rect s) (w : r.shape.Idx → Val e)
    (L : List (View.Piece Val s e)) (x : r.shape.Idx) (y : s.Idx) (hx : r.emb x = y) : View.canon (⟨r, w⟩ :: L) y = w x := by
  subst hx; exact View.canon_cons_emb r w L x

/-- Off the last store's rows, a buffer filled piece by piece holds what the earlier stores left. -/
theorem canon_skip_rows {s : Shape} {e : EltTy} {Val : EltTy → Type} [∀ e, Nonempty (Val e)] (p : View.Piece Val s e)
    (L : List (View.Piece Val s e)) (y : s.Idx) (a : Fin s.rank) (o n : ℕ) (ho : p.1.off a = o) (hst : p.1.stride a = 1) (hn : p.1.size a = n)
    (h : (y a).val < o ∨ o + n ≤ (y a).val) : View.canon (p :: L) y = View.canon L y :=
  View.canon_cons_of_not_mem p L (p.1.not_mem_set_of_axis y a o n ho hst hn h)

end Cert.Pieces
-- ==== Proof.FfnPoint.lean ====
/-
What one grid point of the feed-forward call leaves in the halo scratch and in the output block.
-/
module

public import proofs.«01_k».proof.Proof.Gen.FfnKernelIdeal.Value
public import Idealize.ShloMosaic.Lib.Pipeline.ValueKit
public import Idealize.ShloMosaic.Lib.Pipeline.ReadBack
public import Idealize.ShloMosaic.Lib.Pointwise
public import proofs.«01_k».proof.Proof.FfnSpec
public import proofs.«01_k».proof.Proof.Pieces

@[expose] public section

set_option maxRecDepth 16384

noncomputable section

namespace Cert.FfnKernelIdeal.Point

open Cert.FfnKernelIdeal Cert.FfnKernelIdeal.Gen Idealize.ShloMosaic Idealize.ShloMosaic.TcCoe Idealize.SL.Sem
open Idealize.ShloMosaic.Pipeline (Dat)
open Cert.FfnSpec Cert.Pieces

variable (m : (ℓ : Loc nD τ sig) → Buf (Elt Ideal) ℓ)

/-- The convolution's input at tile `t`: the first half of the up-projection of the tile's normalized rows. -/
def gate (c : Dev nD) (t : Fin cfg0.N) : FVec Ideal S256x2816 .f32 := k0_pay5 (iblk m c 0 t) (iblk m c 1 t) (iblk m c 2 t)

/-- The copied rows in the closed form of the tile's convolution input. -/
theorem pay7_apply (c : Dev nD) (t : Fin cfg0.N) (r : Fin 256) (f : Fin 2816) :
    k0_pay7 (iblk m c 0 t) (iblk m c 1 t) (iblk m c 2 t) (ix2 r f) = gate m c t (ix2 r f) := by
  pointwise [k0_pay7, gate]

/-- After any point the first eight rows of the halo scratch hold the last eight rows of the tile's convolution input. -/
theorem halo (c : Dev nD) (t : Fin cfg0.N) (r : Fin 8) (f : Fin 2816) :
    (outsAt0 m c t.val t.isLt).2 (ix2 (⟨r.val, by omega⟩ : Fin 264) f) = gate m c t (ix2 (⟨248 + r.val, by omega⟩ : Fin 256) f) := by
  by_cases h0 : t.val % 16 = 0
  · rw [outsAt0_A m c t h0]
    frame_out
    rw [canon_hit _ _ _ (ix2 r f) _ (by funext a; fin_cases a <;> (apply Fin.ext; simp))]
    rw [View.readCov_eq_canon']
    pointwise [k0_pay1]
    rw [canon_hit _ _ _ (ix2 (⟨248 + r.val, by omega⟩ : Fin 256) f) _ (by funext a; fin_cases a <;> (apply Fin.ext; simp <;> omega)), pay7_apply]
  · rw [outsAt0_B m c t h0]
    frame_out
    rw [canon_hit _ _ _ (ix2 r f) _ (by funext a; fin_cases a <;> (apply Fin.ext; simp))]
    rw [View.readCov_eq_canon']
    pointwise [k0_pay1]
    rw [canon_hit _ _ _ (ix2 (⟨248 + r.val, by omega⟩ : Fin 256) f) _ (by funext a; fin_cases a <;> (apply Fin.ext; simp <;> omega)), pay7_apply]

/-- The point before `t`. -/
abbrev prev (t : Fin cfg0.N) : Fin cfg0.N := ⟨t.val - 1, Nat.lt_of_le_of_lt (Nat.sub_le _ _) t.isLt⟩

/-- The convolution's input `k` time steps earlier, at row `r` of tile `t`: within the tile; before it, zero at a sequence's
    first tile and the last rows of the tile before otherwise. -/
def shifted (c : Dev nD) (t : Fin cfg0.N) (k : ℕ) (r : Fin 256) (f : Fin 2816) : Ideal .f32 :=
  if k ≤ r.val then gate m c t (ix2 (⟨r.val - k, by omega⟩ : Fin 256) f)
  else if t.val % 16 = 0 then 0
  else gate m c (prev t) (ix2 (⟨(256 + r.val - k) % 256, Nat.mod_lt _ (by norm_num)⟩ : Fin 256) f)

/-- A load of 256 rows starting at row `8 - k`, after the tile's rows were stored from row 8 over cleared rows: the shifted input. -/
theorem load_A (c : Dev nD) (t : Fin cfg0.N) (h0 : t.val % 16 = 0) (k : ℕ) (hk : k ≤ 8) (r : Fin 256) (f : Fin 2816)
    (y : S264x2816.Idx) (hy0 : (y 0).val = 8 - k + r.val) (hy1 : (y 1).val = f.val) :
    View.canon [⟨Rect.unit ![8, 0] ![256, 2816] inb_S264x2816_S256x2816_8_0, k0_pay7 (iblk m c 0 t) (iblk m c 1 t) (iblk m c 2 t)⟩,
      (⟨Rect.unit ![0, 0] ![8, 2816] inb_S264x2816_S8x2816_0_0, k0_pay6 (F := Ideal)⟩ : View.Piece (Elt Ideal) S264x2816 .f32)] y = shifted m c t k r f := by
  unfold shifted
  by_cases h : k ≤ r.val
  · rw [if_pos h, canon_hit _ _ _ (ix2 (⟨r.val - k, by omega⟩ : Fin 256) f) _
      (by funext a; fin_cases a <;> (apply Fin.ext; simp [hy0, hy1] <;> omega)), pay7_apply]
  · rw [if_neg h, if_pos h0, canon_skip_rows _ _ _ 0 8 256 rfl rfl rfl (by rw [hy0]; omega),
      canon_hit _ _ _ (ix2 (⟨8 - k + r.val, by omega⟩ : Fin 8) f) _
      (by funext a; fin_cases a <;> (apply Fin.ext; simp [hy0, hy1]))]
    pointwise [k0_pay6]

/-- The same load where the first eight rows are what the point before left. -/
theorem load_B (c : Dev nD) (t : Fin cfg0.N) (h0 : ¬ t.val % 16 = 0) (k : ℕ) (hk : k ≤ 8) (r : Fin 256) (f : Fin 2816)
    (h : scM0_0.IsWhole)
    (y : S264x2816.Idx) (hy0 : (y 0).val = 8 - k + r.val) (hy1 : (y 1).val = f.val) :
    View.read (Elt Ideal) (View.whole cc0_scratch0) ((View.whole cc0_scratch0).writes (Elt Ideal)
      (h.unread (outsAt0 m c (t.val - 1) (prev t).isLt).2)
      [⟨Rect.unit ![8, 0] ![256, 2816] inb_S264x2816_S256x2816_8_0, k0_pay7 (iblk m c 0 t) (iblk m c 1 t) (iblk m c 2 t)⟩]) y
      = shifted m c t k r f := by
  unfold shifted
  by_cases hr : k ≤ r.val
  · rw [if_pos hr, View.read_writes_cons_hit _ _ _ _ _ (ix2 (⟨r.val - k, by omega⟩ : Fin 256) f) _
      (by funext a; fin_cases a <;> (apply Fin.ext; simp [hy0, hy1] <;> omega)), pay7_apply]
  · rw [if_neg hr, if_neg h0, View.read_writes_cons_miss_of_axis _ _ _ _ _ 0 8 256 rfl rfl rfl (by rw [hy0]; omega), View.writes_nil,
      read_unread_whole, show y = ix2 (⟨(⟨8 - k + r.val, by omega⟩ : Fin 8).val, by simp only []; omega⟩ : Fin 264) f from
        (by funext a; fin_cases a <;> (apply Fin.ext; simp [hy0, hy1])), halo m c (prev t)]
    congr 1
    refine congrArg (fun q => ix2 q f) (Fin.ext ?_)
    show 248 + (8 - k + r.val) = (256 + r.val - k) % 256
    omega

/-- The output block of a point over the loads of the two shifted inputs. -/
def blockOf (c : Dev nD) (t : Fin cfg0.N) (c1 c2 : Vec Ideal S256x2816 .f32) : Vec Ideal S256x1024 .f32 :=
  k0_pay2 (k0_pay3 (iblk m c 0 t)) (k0_pay4 (iblk m c 0 t) (iblk m c 1 t) (iblk m c 2 t))
    (k0_pay5 (iblk m c 0 t) (iblk m c 1 t) (iblk m c 2 t)) c1
    (k0_pay8 c2 (View.ld (iblk m c 3 t) (Rect.unit ![0, 0] ![1, 2816] inb_S3x2816_S1x2816_0_0)))
    (k0_pay9 (View.ld (iblk m c 3 t) (Rect.unit ![1, 0] ![1, 2816] inb_S3x2816_S1x2816_1_0)))
    (View.ld (iblk m c 3 t) (Rect.unit ![2, 0] ![1, 2816] inb_S3x2816_S1x2816_2_0)) (iblk m c 4 t) (iblk m c 5 t)

/-- The output block depends on the two loads only through their values. -/
theorem blockOf_congr (c : Dev nD) (t : Fin cfg0.N) {a a' b b' : Vec Ideal S256x2816 .f32} (ha : a = a') (hb : b = b')
    (y : S256x1024.Idx) : blockOf m c t a b y = blockOf m c t a' b' y := by
  rw [ha, hb]

/-- Every point leaves in its output block the block over the shifted inputs. -/
theorem out_eq (c : Dev nD) (t : Fin cfg0.N) (r : Fin 256) (f : Fin 1024) : (outsAt0 m c t.val t.isLt).1 (ix2 r f) =
    blockOf m c t (fun j => shifted m c t 1 (j 0) (j 1)) (fun j => shifted m c t 2 (j 0) (j 1)) (ix2 r f) := by
  by_cases h0 : t.val % 16 = 0
  · rw [outsAt0_A m c t h0]
    frame_out
    rw [View.readCov_eq_canon', View.readCov_eq_canon']
    exact blockOf_congr m c t (funext fun j => load_A m c t h0 1 (by norm_num) (j 0) (j 1) _ (by simp) (by simp))
      (funext fun j => load_A m c t h0 2 (by norm_num) (j 0) (j 1) _ (by simp) (by simp)) _
  · rw [outsAt0_B m c t h0]
    frame_out
    exact blockOf_congr m c t (funext fun j => load_B m c t h0 1 (by norm_num) (j 0) (j 1) _ _ (by simp) (by simp))
      (funext fun j => load_B m c t h0 2 (by norm_num) (j 0) (j 1) _ _ (by simp) (by simp)) _

/-- One element of the convolution's input. -/
theorem gate_apply (c : Dev nD) (t : Fin cfg0.N) (r : Fin 256) (f : Fin 2816) : gate m c t (ix2 r f) =
    proj (fun k => iblk m c 0 t (ix2 r k)) (fun k => iblk m c 1 t (ix2 0 k)) (fun k => iblk m c 2 t (ix2 k (⟨f.val, by omega⟩ : Fin 5632))) := by
  unfold proj
  pointwise [gate, k0_pay5, k0_pay4, k0_pay3]

/-- One element of an output block. -/
theorem block_apply (c : Dev nD) (t : Fin cfg0.N) (r : Fin 256) (f : Fin 1024) :
    blockOf m c t (fun j => shifted m c t 1 (j 0) (j 1)) (fun j => shifted m c t 2 (j 0) (j 1)) (ix2 r f) =
    glu (iblk m c 0 t (ix2 r f)) (fun j => conv (iblk m c 3 t (ix2 0 j)) (iblk m c 3 t (ix2 1 j)) (iblk m c 3 t (ix2 2 j))
      (iblk m c 4 t (ix2 0 j)) (shifted m c t 2 r j) (shifted m c t 1 r j) (gate m c t (ix2 r j)))
      (fun j => proj (fun k => iblk m c 0 t (ix2 r k)) (fun k => iblk m c 1 t (ix2 0 k))
        (fun k => iblk m c 2 t (ix2 k (⟨2816 + j.val, by omega⟩ : Fin 5632))))
      (fun j => iblk m c 5 t (ix2 j f)) := by
  simp only [gate_apply]
  unfold blockOf glu conv proj
  pointwise [k0_pay2, k0_pay3, k0_pay4, k0_pay5, k0_pay8, k0_pay9]

end Cert.FfnKernelIdeal.Point
-- ==== Proof.FfnKernelValue.lean ====
/-
The feed-forward kernel's result array: the closed form of the sub-layer at every row of every sequence.
-/
module

public import proofs.«01_k».proof.Proof.FfnPoint

@[expose] public section

set_option maxRecDepth 16384

noncomputable section

namespace Cert.FfnKernelIdeal.Result

open Cert.FfnKernelIdeal Cert.FfnKernelIdeal.Gen Cert.FfnKernelIdeal.Point Idealize.ShloMosaic Idealize.ShloMosaic.TcCoe Idealize.SL.Sem
open Idealize.ShloMosaic.Pipeline (Dat)
open Cert.FfnSpec

variable (m : (ℓ : Loc nD τ sig) → Buf (Elt Ideal) ℓ) (ρ : Dev nD → PrngReg)

/-- The residual stream entering the call, as a table. -/
def xT (c : Dev nD) (b : Fin 8) (τ' : Fin 4096) (k : Fin 1024) : EReal := m ((c : Thread nD τ).loc main_arg0) (ix3 b τ' k)
/-- The normalization scale. -/
def gT (c : Dev nD) (k : Fin 1024) : EReal := m ((c : Thread nD τ).loc main_arg1) (ix1 k)
/-- The up-projection. -/
def wuT (c : Dev nD) (k : Fin 1024) (f : Fin 5632) : EReal := m ((c : Thread nD τ).loc main_arg2) (ix2 k f)
/-- The convolution's taps. -/
def cwT (c : Dev nD) (k : Fin 3) (f : Fin 2816) : EReal := m ((c : Thread nD τ).loc main_arg3) (ix2 k f)
/-- The convolution's bias. -/
def cbT (c : Dev nD) (f : Fin 2816) : EReal := m ((c : Thread nD τ).loc main_arg4) (ix1 f)
/-- The down-projection. -/
def wdT (c : Dev nD) (k : Fin 2816) (f : Fin 1024) : EReal := m ((c : Thread nD τ).loc main_arg5) (ix2 k f)

/-- The result array of the call. -/
def result (c : Dev nD) : Buf (Elt Ideal) ((c : Thread nD τ).loc main_v5) := fun i =>
  layer (xT m c ⟨(i 0).val / 4096, by have := (i 0).isLt; simp at this; omega⟩) (gT m c) (wuT m c) (cwT m c) (cbT m c) (wdT m c)
    ⟨(i 0).val % 4096, Nat.mod_lt _ (by norm_num)⟩ (i 1)

/-- Where each window stands at a point. -/
theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![t.val, 0] :=
  (by decide +kernel : ∀ t : Fin grid0.N, _)

/-- The number of a point is below the number of points. -/
theorem lt_points (t : Fin cfg0.N) : t.val < 128 := lt_of_lt_of_eq t.isLt N_0

/-- First window: the block it holds at a point, element by element. -/
theorem blk0 (c : Dev nD) (t : Fin cfg0.N) (r : Fin 256) (k : Fin 1024) : iblk m c 0 t (ix2 r k) =
    xT m c ⟨(256 * t.val + r.val) / 4096, by have := lt_points t; omega⟩ ⟨(256 * t.val + r.val) % 4096, Nat.mod_lt _ (by norm_num)⟩ k := by
  unfold xT
  blk_ext! [iblk, V, idx t]

/-- Second window: the block it holds at a point, element by element. -/
theorem blk1 (c : Dev nD) (t : Fin cfg0.N) (k : Fin 1024) : iblk m c 1 t (ix2 0 k) = gT m c k := by
  unfold gT
  blk_ext! [iblk, V, idx t]

/-- Third window: the block it holds at a point, element by element. -/
theorem blk2 (c : Dev nD) (t : Fin cfg0.N) (k : Fin 1024) (f : Fin 5632) : iblk m c 2 t (ix2 k f) = wuT m c k f := by
  unfold wuT
  blk_ext [iblk, V, idx t]

/-- Fourth window: the block it holds at a point, element by element. -/
theorem blk3 (c : Dev nD) (t : Fin cfg0.N) (k : Fin 3) (f : Fin 2816) : iblk m c 3 t (ix2 k f) = cwT m c k f := by
  unfold cwT
  blk_ext [iblk, V, idx t]

/-- Fifth window: the block it holds at a point, element by element. -/
theorem blk4 (c : Dev nD) (t : Fin cfg0.N) (f : Fin 2816) : iblk m c 4 t (ix2 0 f) = cbT m c f := by
  unfold cbT
  blk_ext! [iblk, V, idx t]

/-- Sixth window: the block it holds at a point, element by element. -/
theorem blk5 (c : Dev nD) (t : Fin cfg0.N) (k : Fin 2816) (f : Fin 1024) : iblk m c 5 t (ix2 k f) = wdT m c k f := by
  unfold wdT
  blk_ext [iblk, V, idx t]

/-- The convolution's input at a row of a tile is the one of that row's sequence and time. -/
theorem gate_back (c : Dev nD) (t : Fin cfg0.N) (r : Fin 256) (f : Fin 2816) (b : Fin 8) (τ' k : ℕ) (hb : b.val = (256 * t.val + r.val) / 4096)
    (hτ : k ≤ τ' ∧ τ' < 4096) (h : τ' - k = (256 * t.val + r.val) % 4096) :
    gate m c t (ix2 r f) = back (xT m c b) (gT m c) (fun k => wuT m c k ⟨f.val, by omega⟩) τ' k := by
  rw [gate_apply]
  unfold back
  rw [dif_pos hτ]
  congr 1
  · funext k'
    rw [blk0]
    congr 1
    · exact Fin.ext hb.symm
    · exact Fin.ext h.symm
  · funext k'
    exact blk1 m c t k'
  · funext k'
    exact blk2 m c t k' _

/-- The shifted convolution input is the sequence's at the earlier time, zero before the sequence begins. -/
theorem shifted_back (c : Dev nD) (t : Fin cfg0.N) (k : ℕ) (hk : 1 ≤ k ∧ k ≤ 2) (r : Fin 256) (f : Fin 2816) (b : Fin 8)
    (hb : b.val = (256 * t.val + r.val) / 4096) :
    shifted m c t k r f = back (xT m c b) (gT m c) (fun k => wuT m c k ⟨f.val, by omega⟩) ((256 * t.val + r.val) % 4096) k := by
  have ht := lt_points t
  unfold shifted
  by_cases h : k ≤ r.val
  · rw [if_pos h]
    exact gate_back m c t _ f b _ k (by simp only []; omega) (by omega) (by simp only []; omega)
  · rw [if_neg h]
    by_cases h0 : t.val % 16 = 0
    · rw [if_pos h0]
      unfold back
      rw [dif_neg (by omega)]
    · rw [if_neg h0]
      exact gate_back m c (prev t) _ f b _ k (by simp only []; omega) (by omega) (by simp only []; omega)

/-- An element of a point's output block is the result array's element of that row and column. -/
theorem out_result (c : Dev nD) (t : Fin cfg0.N) (r : Fin 256) (f : Fin 1024) : (outsAt0 m c t.val t.isLt).1 (ix2 r f) =
    result m c (ix2 (⟨256 * t.val + r.val, by have := lt_points t; omega⟩ : Fin 32768) f) := by
  have ht := lt_points t
  rw [out_eq, block_apply]
  show _ = layer _ _ _ _ _ _ _ _
  unfold layer
  congr 1
  · exact blk0 m c t r f
  · funext j
    rw [blk3, blk3, blk3, blk4]
    congr 1
    · exact shifted_back m c t 2 (by norm_num) r j _ rfl
    · exact shifted_back m c t 1 (by norm_num) r j _ rfl
    · exact gate_back m c t r j _ _ 0 rfl ⟨Nat.zero_le _, Nat.mod_lt _ (by norm_num)⟩ rfl
  · funext j
    congr 1
    · funext k
      exact blk0 m c t r k
    · funext k
      exact blk1 m c t k
    · funext k
      exact blk2 m c t k _
  · funext j
    exact blk5 m c t j f

/-- After the run the result array is the closed form. -/
theorem final (c : Dev nD) : (dats m 0 c).arrAt 6 cfg0.N = result m c := by
  refine (dats m 0 c).arrAt_eq_of_covers 6 _ (by decide +kernel) fun t hf y => ?_
  rw [after0_6]
  have hy : y = (ix2 (y 0 : Fin 256) (y 1 : Fin 1024) : S256x1024.Idx) := funext fun a => by fin_cases a <;> rfl
  have hp : ((cfg0.win 6).blk t).view.emb y = (ix2 (⟨256 * t.val + (y 0 : Fin 256).val, by
      have := lt_points t; have h := (y 0 : Fin 256).isLt; exact (show 256 * t.val + (y 0 : Fin 256).val < 32768 by change (y 0).val < 256 at h; change 256 * t.val + (y 0).val < 32768; omega)⟩ : Fin 32768) (y 1 : Fin 1024) : S32768x1024.Idx) := by
    blk_ext [idx t]
  rw [hp]
  exact (congrArg (outsAt0 m c t.val t.isLt).1 hy).trans (out_result m c t (y 0) (y 1))

/-- The run: the result array is the closed form and the arguments are unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.FfnKernelIdeal.Result
-- ==== Proof.FfnReferenceValue.lean ====
/-
The feed-forward reference's result array: the closed form of the sub-layer at every row of every sequence.
-/
module

public import proofs.«01_k».proof.Proof.FfnSpec
public import proofs.«01_k».proof.Proof.Gen.FfnReferenceIdeal.Read
public import Idealize.ShloMosaic.Lib.Pointwise

@[expose] public section

set_option maxRecDepth 16384

noncomputable section

namespace Cert.FfnReferenceIdeal.Result

open Cert.FfnReferenceIdeal Cert.FfnReferenceIdeal.Gen Cert.FfnReferenceIdeal.Read Idealize.ShloMosaic Idealize.ShloMosaic.TcCoe Idealize.SL.Sem
open Cert.FfnSpec

variable (x0 : (⟨S8x4096x1024, .f32⟩ : BufTy).Contents (Elt Ideal)) (x1 : (⟨S1024, .f32⟩ : BufTy).Contents (Elt Ideal))
  (x2 : (⟨S1024x5632, .f32⟩ : BufTy).Contents (Elt Ideal)) (x3 : (⟨S3x2816, .f32⟩ : BufTy).Contents (Elt Ideal))
  (x4 : (⟨S2816, .f32⟩ : BufTy).Contents (Elt Ideal)) (x5 : (⟨S2816x1024, .f32⟩ : BufTy).Contents (Elt Ideal))

/-- One element of the up-projection. -/
theorem up_apply (b : Fin 8) (τ' : Fin 4096) (f : Fin 5632) : val_main_v13 x0 x1 x2 (ix3 b τ' f) =
    proj (fun k => x0 (ix3 b τ' k)) (fun k => x1 (ix1 k)) (fun k => x2 (ix2 k f)) := by
  unfold proj
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]

/-- The padded convolution input `2 - k` rows down: the input `k` time steps earlier, zero before the sequence begins. -/
theorem pad_apply (b : Fin 8) (τ' : Fin 4096) (k : ℕ) (hk : k ≤ 2) (j : Fin 2816) :
    val_main_v16 x0 x1 x2 (ix3 b (⟨2 - k + τ'.val, by omega⟩ : Fin 4098) j) =
      back (fun τ'' l => x0 (ix3 b τ'' l)) (fun l => x1 (ix1 l)) (fun l => x2 (ix2 l (⟨j.val, by omega⟩ : Fin 5632))) τ'.val k := by
  pointwise [val_main_v16]
  unfold back
  by_cases h : k ≤ τ'.val
  · rw [dif_pos (by omega), dif_pos (by omega)]
    pointwise [val_main_v14]
    rw [up_apply]
    congr 1
    funext l
    exact congrArg (fun q => x0 (ix3 b q l)) (Fin.ext (by simp only []; omega))
  · rw [dif_neg (by omega), dif_neg (by omega)]
    pointwise [val_main_call0_v0, val_main_c]
    show (((0#32 : BitVec 32).toInt : ℝ) : EReal) = 0
    simp

/-- The convolution at one row and column. -/
theorem conv_apply (b : Fin 8) (τ' : Fin 4096) (j : Fin 2816) : val_main_v39 x0 x1 x2 x3 x4 (ix3 b τ' j) =
    conv (x3 (ix2 0 j)) (x3 (ix2 1 j)) (x3 (ix2 2 j)) (x4 (ix1 j))
      (back (fun τ'' l => x0 (ix3 b τ'' l)) (fun l => x1 (ix1 l)) (fun l => x2 (ix2 l (⟨j.val, by omega⟩ : Fin 5632))) τ'.val 2)
      (back (fun τ'' l => x0 (ix3 b τ'' l)) (fun l => x1 (ix1 l)) (fun l => x2 (ix2 l (⟨j.val, by omega⟩ : Fin 5632))) τ'.val 1)
      (back (fun τ'' l => x0 (ix3 b τ'' l)) (fun l => x1 (ix1 l)) (fun l => x2 (ix2 l (⟨j.val, by omega⟩ : Fin 5632))) τ'.val 0) := by
  rw [← pad_apply _ _ _ _ _ 2 (by norm_num), ← pad_apply _ _ _ _ _ 1 (by norm_num), ← pad_apply _ _ _ _ _ 0 (by norm_num)]
  unfold conv
  pointwise [val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_v19, val_main_v18, val_main_v17]

/-- The result at a row and column. -/
theorem out_apply (r : Fin 32768) (f : Fin 1024) : val_main_v44 x0 x1 x2 x3 x4 x5 (ix2 r f) =
    layer (fun τ'' l => x0 (ix3 (⟨r.val / 4096, by omega⟩ : Fin 8) τ'' l)) (fun l => x1 (ix1 l)) (fun l j => x2 (ix2 l j))
      (fun k j => x3 (ix2 k j)) (fun j => x4 (ix1 j)) (fun j l => x5 (ix2 j l)) ⟨r.val % 4096, Nat.mod_lt _ (by norm_num)⟩ f := by
  unfold layer glu
  simp only [← up_apply, zero_sub]
  rw [val_main_v44_apply, show idx_main_v44 (ix2 r f) = ix3 (⟨r.val / 4096, by omega⟩ : Fin 8) (⟨r.val % 4096, Nat.mod_lt _ (by norm_num)⟩ : Fin 4096) f from
    funext fun a => by fin_cases a <;> (apply Fin.ext; simp <;> omega)]
  pointwise [val_main_v43, val_main_v42, val_main_v41, val_main_v40, val_main_v15, val_main_call1_v5, val_main_call1_v4, val_main_call1_cst_0,
    val_main_call1_v3, val_main_call1_v2, val_main_call1_cst, val_main_call1_v1, val_main_call1_v0]
  simp only [conv_apply]

end Cert.FfnReferenceIdeal.Result
-- ==== Proof.FfnClaim.lean ====
/-
The feed-forward call's claims: the kernel and the plain computation end with equal results.
-/
module

public import proofs.«01_k».proof.Defs
public import proofs.«01_k».proof.Proof.FfnKernelValue
public import proofs.«01_k».proof.Proof.FfnReferenceValue
public import proofs.«01_k».proof.Proof.Gen.FfnKernelIdeal
public import proofs.«01_k».proof.Proof.Gen.FfnReferenceIdeal

@[expose] public section

set_option maxRecDepth 16384

noncomputable section

namespace Cert.Proof

open Idealize.ShloMosaic Idealize.SL.Sem

/-- From memories that agree on the arguments the two feed-forward programs end with equal results. -/
theorem ffn_algebraic : Cert.algebraic_FfnKernelIdeal_FfnReferenceIdeal (hFfnKernelIdeal := Cert.FfnKernelIdeal.Gen.facts)
    (hFfnReferenceIdeal := Cert.FfnReferenceIdeal.Gen.facts) := by
  intro m ρ m' ρ' _ hagree
  refine ⟨fun c => Cert.FfnKernelIdeal.Result.result m c, Cert.FfnKernelIdeal.Result.run m ρ, ?_⟩
  refine (θ_run Cert.FfnReferenceIdeal.defs _ _).mono (fun _ h c => ⟨(h c).1.trans ?_, (h c).2⟩) (Cert.FfnReferenceIdeal.Value.run (F := Ideal) m' ρ')
  obtain ⟨h0, h1, h2, h3, h4, h5⟩ := hagree c
  rw [Cert.FfnReferenceIdeal.Read.val_main_v44_eq, h0, h1, h2, h3, h4, h5]
  funext i
  have hi : i = ix2 (i 0 : Fin 32768) (i 1 : Fin 1024) := funext fun a => by fin_cases a <;> rfl
  rw [hi]
  exact Cert.FfnReferenceIdeal.Result.out_apply _ _ _ _ _ _ (i 0) (i 1)

end Cert.Proof
-- ==== Proof.OddSpec.lean ====
/-
The short gated convolution sub-layer as one closed form over the extended reals, stated over plain tables: both the kernel's result
array and the reference's are shown to be it.
-/
module

public import proofs.«01_k».proof.Proof.FfnSpec

@[expose] public section

noncomputable section

namespace Cert.OddSpec

open Idealize.ShloMosaic
open Cert.FfnSpec (proj conv)

/-- One element of the convolution's input: the product of the projections of a row `x` to two columns. -/
def gated (x g wc wz : Fin 1024 → EReal) : EReal := proj x g wc * proj x g wz

/-- The residual plus the out-projection of the gates `a` times the convolved input `z`. -/
def mix (x : EReal) (a z wo : Fin 1024 → EReal) : EReal := x + ∑ j : Fin 1024, (a j * z j) * wo j

/-- A sequence's value `k` steps before time `τ`, zero before the sequence begins. -/
def past (h : Fin 4096 → EReal) (τ k : ℕ) : EReal := if hk : k ≤ τ ∧ τ < 4096 then h ⟨τ - k, by omega⟩ else 0

/-- The convolution's input along one sequence `x`, column `j`. -/
def convIn (x : Fin 4096 → Fin 1024 → EReal) (g : Fin 1024 → EReal) (wi : Fin 1024 → Fin 3072 → EReal) (j : Fin 1024) (τ : Fin 4096) : EReal :=
  gated (x τ) g (fun k => wi k ⟨1024 + j.val, by omega⟩) (fun k => wi k ⟨2048 + j.val, by omega⟩)

/-- The sub-layer's output for one sequence `x` at time `τ`, column `f`. -/
def layer (x : Fin 4096 → Fin 1024 → EReal) (g : Fin 1024 → EReal) (wi : Fin 1024 → Fin 3072 → EReal) (cw : Fin 3 → Fin 1024 → EReal)
    (cb : Fin 1024 → EReal) (wo : Fin 1024 → Fin 1024 → EReal) (τ : Fin 4096) (f : Fin 1024) : EReal :=
  mix (x τ f) (fun j => proj (x τ) g (fun k => wi k ⟨j.val, by omega⟩))
    (fun j => conv (cw 0 j) (cw 1 j) (cw 2 j) (cb j) (past (convIn x g wi j) τ.val 2) (past (convIn x g wi j) τ.val 1)
      (past (convIn x g wi j) τ.val 0)) (fun j => wo j f)

end Cert.OddSpec
-- ==== Proof.OddPoint.lean ====
/-
What one grid point of the gated-convolution call leaves in the halo scratch and in the output block.
-/
module

public import proofs.«01_k».proof.Proof.Gen.OddKernelIdeal.Value
public import Idealize.ShloMosaic.Lib.Pipeline.ValueKit
public import Idealize.ShloMosaic.Lib.Pipeline.ReadBack
public import Idealize.ShloMosaic.Lib.Pointwise
public import proofs.«01_k».proof.Proof.OddSpec
public import proofs.«01_k».proof.Proof.Pieces

@[expose] public section

set_option maxRecDepth 16384

noncomputable section

namespace Cert.OddKernelIdeal.Point

open Cert.OddKernelIdeal Cert.OddKernelIdeal.Gen Idealize.ShloMosaic Idealize.ShloMosaic.TcCoe Idealize.SL.Sem
open Idealize.ShloMosaic.Pipeline (Dat)
open Cert.FfnSpec (proj conv)
open Cert.OddSpec Cert.Pieces

variable (m : (ℓ : Loc nD τ sig) → Buf (Elt Ideal) ℓ)

/-- The convolution's input at tile `t`: the product of the second and third thirds of the in-projection of the tile's normalized rows. -/
def gate (c : Dev nD) (t : Fin cfg0.N) : FVec Ideal S256x1024 .f32 := k0_pay5 (iblk m c 0 t) (iblk m c 1 t) (iblk m c 2 t)

/-- The copied rows in the closed form of the tile's convolution input. -/
theorem pay7_apply (c : Dev nD) (t : Fin cfg0.N) (r : Fin 256) (f : Fin 1024) :
    k0_pay7 (iblk m c 0 t) (iblk m c 1 t) (iblk m c 2 t) (ix2 r f) = gate m c t (ix2 r f) := by
  pointwise [k0_pay7, gate]

/-- After any point the first eight rows of the halo scratch hold the last eight rows of the tile's convolution input. -/
theorem halo (c : Dev nD) (t : Fin cfg0.N) (r : Fin 8) (f : Fin 1024) :
    (outsAt0 m c t.val t.isLt).2 (ix2 (⟨r.val, by omega⟩ : Fin 264) f) = gate m c t (ix2 (⟨248 + r.val, by omega⟩ : Fin 256) f) := by
  by_cases h0 : t.val % 16 = 0
  · rw [outsAt0_A m c t h0]
    frame_out
    rw [canon_hit _ _ _ (ix2 r f) _ (by funext a; fin_cases a <;> (apply Fin.ext; simp))]
    rw [View.readCov_eq_canon']
    pointwise [k0_pay1]
    rw [canon_hit _ _ _ (ix2 (⟨248 + r.val, by omega⟩ : Fin 256) f) _ (by funext a; fin_cases a <;> (apply Fin.ext; simp <;> omega)), pay7_apply]
  · rw [outsAt0_B m c t h0]
    frame_out
    rw [canon_hit _ _ _ (ix2 r f) _ (by funext a; fin_cases a <;> (apply Fin.ext; simp))]
    rw [View.readCov_eq_canon']
    pointwise [k0_pay1]
    rw [canon_hit _ _ _ (ix2 (⟨248 + r.val, by omega⟩ : Fin 256) f) _ (by funext a; fin_cases a <;> (apply Fin.ext; simp <;> omega)), pay7_apply]

/-- The point before `t`. -/
abbrev prev (t : Fin cfg0.N) : Fin cfg0.N := ⟨t.val - 1, Nat.lt_of_le_of_lt (Nat.sub_le _ _) t.isLt⟩

/-- The convolution's input `k` time steps earlier, at row `r` of tile `t`: within the tile; before it, zero at a sequence's
    first tile and the last rows of the tile before otherwise. -/
def shifted (c : Dev nD) (t : Fin cfg0.N) (k : ℕ) (r : Fin 256) (f : Fin 1024) : Ideal .f32 :=
  if k ≤ r.val then gate m c t (ix2 (⟨r.val - k, by omega⟩ : Fin 256) f)
  else if t.val % 16 = 0 then 0
  else gate m c (prev t) (ix2 (⟨(256 + r.val - k) % 256, Nat.mod_lt _ (by norm_num)⟩ : Fin 256) f)

/-- A load of 256 rows starting at row `8 - k`, after the tile's rows were stored from row 8 over cleared rows: the shifted input. -/
theorem load_A (c : Dev nD) (t : Fin cfg0.N) (h0 : t.val % 16 = 0) (k : ℕ) (hk : k ≤ 8) (r : Fin 256) (f : Fin 1024)
    (y : S264x1024.Idx) (hy0 : (y 0).val = 8 - k + r.val) (hy1 : (y 1).val = f.val) :
    View.canon [⟨Rect.unit ![8, 0] ![256, 1024] inb_S264x1024_S256x1024_8_0, k0_pay7 (iblk m c 0 t) (iblk m c 1 t) (iblk m c 2 t)⟩,
      (⟨Rect.unit ![0, 0] ![8, 1024] inb_S264x1024_S8x1024_0_0, k0_pay6 (F := Ideal)⟩ : View.Piece (Elt Ideal) S264x1024 .f32)] y = shifted m c t k r f := by
  unfold shifted
  by_cases h : k ≤ r.val
  · rw [if_pos h, canon_hit _ _ _ (ix2 (⟨r.val - k, by omega⟩ : Fin 256) f) _
      (by funext a; fin_cases a <;> (apply Fin.ext; simp [hy0, hy1] <;> omega)), pay7_apply]
  · rw [if_neg h, if_pos h0, canon_skip_rows _ _ _ 0 8 256 rfl rfl rfl (by rw [hy0]; omega),
      canon_hit _ _ _ (ix2 (⟨8 - k + r.val, by omega⟩ : Fin 8) f) _
      (by funext a; fin_cases a <;> (apply Fin.ext; simp [hy0, hy1]))]
    pointwise [k0_pay6]

/-- The same load where the first eight rows are what the point before left. -/
theorem load_B (c : Dev nD) (t : Fin cfg0.N) (h0 : ¬ t.val % 16 = 0) (k : ℕ) (hk : k ≤ 8) (r : Fin 256) (f : Fin 1024)
    (h : scM0_0.IsWhole)
    (y : S264x1024.Idx) (hy0 : (y 0).val = 8 - k + r.val) (hy1 : (y 1).val = f.val) :
    View.read (Elt Ideal) (View.whole cc0_scratch0) ((View.whole cc0_scratch0).writes (Elt Ideal)
      (h.unread (outsAt0 m c (t.val - 1) (prev t).isLt).2)
      [⟨Rect.unit ![8, 0] ![256, 1024] inb_S264x1024_S256x1024_8_0, k0_pay7 (iblk m c 0 t) (iblk m c 1 t) (iblk m c 2 t)⟩]) y
      = shifted m c t k r f := by
  unfold shifted
  by_cases hr : k ≤ r.val
  · rw [if_pos hr, View.read_writes_cons_hit _ _ _ _ _ (ix2 (⟨r.val - k, by omega⟩ : Fin 256) f) _
      (by funext a; fin_cases a <;> (apply Fin.ext; simp [hy0, hy1] <;> omega)), pay7_apply]
  · rw [if_neg hr, if_neg h0, View.read_writes_cons_miss_of_axis _ _ _ _ _ 0 8 256 rfl rfl rfl (by rw [hy0]; omega), View.writes_nil,
      read_unread_whole, show y = ix2 (⟨(⟨8 - k + r.val, by omega⟩ : Fin 8).val, by simp only []; omega⟩ : Fin 264) f from
        (by funext a; fin_cases a <;> (apply Fin.ext; simp [hy0, hy1])), halo m c (prev t)]
    congr 1
    refine congrArg (fun q => ix2 q f) (Fin.ext ?_)
    show 248 + (8 - k + r.val) = (256 + r.val - k) % 256
    omega

/-- The output block of a point over the loads of the two shifted inputs. -/
def blockOf (c : Dev nD) (t : Fin cfg0.N) (c1 c2 : Vec Ideal S256x1024 .f32) : Vec Ideal S256x1024 .f32 :=
  k0_pay2 (k0_pay3 (iblk m c 0 t)) (k0_pay4 (iblk m c 0 t) (iblk m c 1 t) (iblk m c 2 t))
    (k0_pay5 (iblk m c 0 t) (iblk m c 1 t) (iblk m c 2 t)) c1
    (k0_pay8 c2 (View.ld (iblk m c 3 t) (Rect.unit ![0, 0] ![1, 1024] inb_S3x1024_S1x1024_0_0)))
    (View.ld (iblk m c 3 t) (Rect.unit ![1, 0] ![1, 1024] inb_S3x1024_S1x1024_1_0))
    (View.ld (iblk m c 3 t) (Rect.unit ![2, 0] ![1, 1024] inb_S3x1024_S1x1024_2_0)) (iblk m c 4 t) (iblk m c 5 t)

/-- The output block depends on the two loads only through their values. -/
theorem blockOf_congr (c : Dev nD) (t : Fin cfg0.N) {a a' b b' : Vec Ideal S256x1024 .f32} (ha : a = a') (hb : b = b')
    (y : S256x1024.Idx) : blockOf m c t a b y = blockOf m c t a' b' y := by
  rw [ha, hb]

/-- Every point leaves in its output block the block over the shifted inputs. -/
theorem out_eq (c : Dev nD) (t : Fin cfg0.N) (r : Fin 256) (f : Fin 1024) : (outsAt0 m c t.val t.isLt).1 (ix2 r f) =
    blockOf m c t (fun j => shifted m c t 1 (j 0) (j 1)) (fun j => shifted m c t 2 (j 0) (j 1)) (ix2 r f) := by
  by_cases h0 : t.val % 16 = 0
  · rw [outsAt0_A m c t h0]
    frame_out
    rw [View.readCov_eq_canon', View.readCov_eq_canon']
    exact blockOf_congr m c t (funext fun j => load_A m c t h0 1 (by norm_num) (j 0) (j 1) _ (by simp) (by simp))
      (funext fun j => load_A m c t h0 2 (by norm_num) (j 0) (j 1) _ (by simp) (by simp)) _
  · rw [outsAt0_B m c t h0]
    frame_out
    exact blockOf_congr m c t (funext fun j => load_B m c t h0 1 (by norm_num) (j 0) (j 1) _ _ (by simp) (by simp))
      (funext fun j => load_B m c t h0 2 (by norm_num) (j 0) (j 1) _ _ (by simp) (by simp)) _

/-- One element of the convolution's input. -/
theorem gate_apply (c : Dev nD) (t : Fin cfg0.N) (r : Fin 256) (f : Fin 1024) : gate m c t (ix2 r f) =
    gated (fun k => iblk m c 0 t (ix2 r k)) (fun k => iblk m c 1 t (ix2 0 k)) (fun k => iblk m c 2 t (ix2 k (⟨1024 + f.val, by omega⟩ : Fin 3072)))
      (fun k => iblk m c 2 t (ix2 k (⟨2048 + f.val, by omega⟩ : Fin 3072))) := by
  unfold gated proj
  pointwise [gate, k0_pay5, k0_pay4, k0_pay3]

/-- One element of an output block. -/
theorem block_apply (c : Dev nD) (t : Fin cfg0.N) (r : Fin 256) (f : Fin 1024) :
    blockOf m c t (fun j => shifted m c t 1 (j 0) (j 1)) (fun j => shifted m c t 2 (j 0) (j 1)) (ix2 r f) =
    mix (iblk m c 0 t (ix2 r f)) (fun j => proj (fun k => iblk m c 0 t (ix2 r k)) (fun k => iblk m c 1 t (ix2 0 k))
        (fun k => iblk m c 2 t (ix2 k (⟨j.val, by omega⟩ : Fin 3072))))
      (fun j => conv (iblk m c 3 t (ix2 0 j)) (iblk m c 3 t (ix2 1 j)) (iblk m c 3 t (ix2 2 j))
      (iblk m c 4 t (ix2 0 j)) (shifted m c t 2 r j) (shifted m c t 1 r j) (gate m c t (ix2 r j)))
      (fun j => iblk m c 5 t (ix2 j f)) := by
  simp only [gate_apply]
  unfold blockOf mix conv gated proj
  pointwise [k0_pay2, k0_pay3, k0_pay4, k0_pay5, k0_pay8]

end Cert.OddKernelIdeal.Point
-- ==== Proof.OddKernelValue.lean ====
/-
The gated-convolution kernel's result array: the closed form of the sub-layer at every row of every sequence.
-/
module

public import proofs.«01_k».proof.Proof.OddPoint

@[expose] public section

set_option maxRecDepth 16384

noncomputable section

namespace Cert.OddKernelIdeal.Result

open Cert.OddKernelIdeal Cert.OddKernelIdeal.Gen Cert.OddKernelIdeal.Point Idealize.ShloMosaic Idealize.ShloMosaic.TcCoe Idealize.SL.Sem
open Idealize.ShloMosaic.Pipeline (Dat)
open Cert.FfnSpec (proj conv)
open Cert.OddSpec

variable (m : (ℓ : Loc nD τ sig) → Buf (Elt Ideal) ℓ) (ρ : Dev nD → PrngReg)

/-- The residual stream entering the call, as a table. -/
def xT (c : Dev nD) (b : Fin 8) (τ' : Fin 4096) (k : Fin 1024) : EReal := m ((c : Thread nD τ).loc main_arg0) (ix3 b τ' k)
/-- The normalization scale. -/
def gT (c : Dev nD) (k : Fin 1024) : EReal := m ((c : Thread nD τ).loc main_arg1) (ix1 k)
/-- The in-projection. -/
def wiT (c : Dev nD) (k : Fin 1024) (f : Fin 3072) : EReal := m ((c : Thread nD τ).loc main_arg2) (ix2 k f)
/-- The convolution's taps. -/
def cwT (c : Dev nD) (k : Fin 3) (f : Fin 1024) : EReal := m ((c : Thread nD τ).loc main_arg3) (ix2 k f)
/-- The convolution's bias. -/
def cbT (c : Dev nD) (f : Fin 1024) : EReal := m ((c : Thread nD τ).loc main_arg4) (ix1 f)
/-- The out-projection. -/
def woT (c : Dev nD) (k : Fin 1024) (f : Fin 1024) : EReal := m ((c : Thread nD τ).loc main_arg5) (ix2 k f)

/-- The result array of the call. -/
def result (c : Dev nD) : Buf (Elt Ideal) ((c : Thread nD τ).loc main_v5) := fun i =>
  layer (xT m c ⟨(i 0).val / 4096, by have := (i 0).isLt; simp at this; omega⟩) (gT m c) (wiT m c) (cwT m c) (cbT m c) (woT m c)
    ⟨(i 0).val % 4096, Nat.mod_lt _ (by norm_num)⟩ (i 1)

/-- Where each window stands at a point. -/
theorem idx : ∀ t : Fin cfg0.N, win0_0.index t = ![t.val, 0] ∧ win0_1.index t = ![0, 0] ∧ win0_2.index t = ![0, 0] ∧
    win0_3.index t = ![0, 0] ∧ win0_4.index t = ![0, 0] ∧ win0_5.index t = ![0, 0] ∧ win0_6.index t = ![t.val, 0] :=
  (by decide +kernel : ∀ t : Fin grid0.N, _)

/-- The number of a point is below the number of points. -/
theorem lt_points (t : Fin cfg0.N) : t.val < 128 := lt_of_lt_of_eq t.isLt N_0

/-- First window: the block it holds at a point, element by element. -/
theorem blk0 (c : Dev nD) (t : Fin cfg0.N) (r : Fin 256) (k : Fin 1024) : iblk m c 0 t (ix2 r k) =
    xT m c ⟨(256 * t.val + r.val) / 4096, by have := lt_points t; omega⟩ ⟨(256 * t.val + r.val) % 4096, Nat.mod_lt _ (by norm_num)⟩ k := by
  unfold xT
  blk_ext! [iblk, V, idx t]

/-- Second window: the block it holds at a point, element by element. -/
theorem blk1 (c : Dev nD) (t : Fin cfg0.N) (k : Fin 1024) : iblk m c 1 t (ix2 0 k) = gT m c k := by
  unfold gT
  blk_ext! [iblk, V, idx t]

/-- Third window: the block it holds at a point, element by element. -/
theorem blk2 (c : Dev nD) (t : Fin cfg0.N) (k : Fin 1024) (f : Fin 3072) : iblk m c 2 t (ix2 k f) = wiT m c k f := by
  unfold wiT
  blk_ext [iblk, V, idx t]

/-- Fourth window: the block it holds at a point, element by element. -/
theorem blk3 (c : Dev nD) (t : Fin cfg0.N) (k : Fin 3) (f : Fin 1024) : iblk m c 3 t (ix2 k f) = cwT m c k f := by
  unfold cwT
  blk_ext [iblk, V, idx t]

/-- Fifth window: the block it holds at a point, element by element. -/
theorem blk4 (c : Dev nD) (t : Fin cfg0.N) (f : Fin 1024) : iblk m c 4 t (ix2 0 f) = cbT m c f := by
  unfold cbT
  blk_ext! [iblk, V, idx t]

/-- Sixth window: the block it holds at a point, element by element. -/
theorem blk5 (c : Dev nD) (t : Fin cfg0.N) (k : Fin 1024) (f : Fin 1024) : iblk m c 5 t (ix2 k f) = woT m c k f := by
  unfold woT
  blk_ext [iblk, V, idx t]

/-- The convolution's input at a row of a tile is the one of that row's sequence and time. -/
theorem gate_past (c : Dev nD) (t : Fin cfg0.N) (r : Fin 256) (f : Fin 1024) (b : Fin 8) (τ' k : ℕ) (hb : b.val = (256 * t.val + r.val) / 4096)
    (hτ : k ≤ τ' ∧ τ' < 4096) (h : τ' - k = (256 * t.val + r.val) % 4096) :
    gate m c t (ix2 r f) = past (convIn (xT m c b) (gT m c) (wiT m c) f) τ' k := by
  rw [gate_apply]
  unfold past
  rw [dif_pos hτ]
  unfold convIn
  congr 1
  · funext k'
    rw [blk0]
    congr 1
    · exact Fin.ext hb.symm
    · exact Fin.ext h.symm
  · funext k'
    exact blk1 m c t k'
  · funext k'
    exact blk2 m c t k' _
  · funext k'
    exact blk2 m c t k' _

/-- The shifted convolution input is the sequence's at the earlier time, zero before the sequence begins. -/
theorem shifted_past (c : Dev nD) (t : Fin cfg0.N) (k : ℕ) (hk : 1 ≤ k ∧ k ≤ 2) (r : Fin 256) (f : Fin 1024) (b : Fin 8)
    (hb : b.val = (256 * t.val + r.val) / 4096) :
    shifted m c t k r f = past (convIn (xT m c b) (gT m c) (wiT m c) f) ((256 * t.val + r.val) % 4096) k := by
  have ht := lt_points t
  unfold shifted
  by_cases h : k ≤ r.val
  · rw [if_pos h]
    exact gate_past m c t _ f b _ k (by simp only []; omega) (by omega) (by simp only []; omega)
  · rw [if_neg h]
    by_cases h0 : t.val % 16 = 0
    · rw [if_pos h0]
      unfold past
      rw [dif_neg (by omega)]
    · rw [if_neg h0]
      exact gate_past m c (prev t) _ f b _ k (by simp only []; omega) (by omega) (by simp only []; omega)

/-- An element of a point's output block is the result array's element of that row and column. -/
theorem out_result (c : Dev nD) (t : Fin cfg0.N) (r : Fin 256) (f : Fin 1024) : (outsAt0 m c t.val t.isLt).1 (ix2 r f) =
    result m c (ix2 (⟨256 * t.val + r.val, by have := lt_points t; omega⟩ : Fin 32768) f) := by
  have ht := lt_points t
  rw [out_eq, block_apply]
  show _ = layer _ _ _ _ _ _ _ _
  unfold layer
  congr 1
  · exact blk0 m c t r f
  · funext j
    congr 1
    · funext k
      exact blk0 m c t r k
    · funext k
      exact blk1 m c t k
    · funext k
      exact blk2 m c t k _
  · funext j
    rw [blk3, blk3, blk3, blk4]
    congr 1
    · exact shifted_past m c t 2 (by norm_num) r j _ rfl
    · exact shifted_past m c t 1 (by norm_num) r j _ rfl
    · exact gate_past m c t r j _ _ 0 rfl ⟨Nat.zero_le _, Nat.mod_lt _ (by norm_num)⟩ rfl
  · funext j
    exact blk5 m c t j f

/-- After the run the result array is the closed form. -/
theorem final (c : Dev nD) : (dats m 0 c).arrAt 6 cfg0.N = result m c := by
  refine (dats m 0 c).arrAt_eq_of_covers 6 _ (by decide +kernel) fun t hf y => ?_
  rw [after0_6]
  have hy : y = (ix2 (y 0 : Fin 256) (y 1 : Fin 1024) : S256x1024.Idx) := funext fun a => by fin_cases a <;> rfl
  have hp : ((cfg0.win 6).blk t).view.emb y = (ix2 (⟨256 * t.val + (y 0 : Fin 256).val, by
      have := lt_points t; have h := (y 0 : Fin 256).isLt; exact (show 256 * t.val + (y 0 : Fin 256).val < 32768 by change (y 0).val < 256 at h; change 256 * t.val + (y 0).val < 32768; omega)⟩ : Fin 32768) (y 1 : Fin 1024) : S32768x1024.Idx) := by
    blk_ext [idx t]
  rw [hp]
  exact (congrArg (outsAt0 m c t.val t.isLt).1 hy).trans (out_result m c t (y 0) (y 1))

/-- The run: the result array is the closed form and the arguments are unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.OddKernelIdeal.Result
-- ==== Proof.OddReferenceValue.lean ====
/-
The gated-convolution reference's result array: the closed form of the sub-layer at every row of every sequence.
-/
module

public import proofs.«01_k».proof.Proof.OddSpec
public import proofs.«01_k».proof.Proof.Gen.OddReferenceIdeal.Read
public import Idealize.ShloMosaic.Lib.Pointwise

@[expose] public section

set_option maxRecDepth 16384

noncomputable section

namespace Cert.OddReferenceIdeal.Result

open Cert.OddReferenceIdeal Cert.OddReferenceIdeal.Gen Cert.OddReferenceIdeal.Read Idealize.ShloMosaic Idealize.ShloMosaic.TcCoe Idealize.SL.Sem
open Cert.FfnSpec (proj conv)
open Cert.OddSpec

variable (x0 : (⟨S8x4096x1024, .f32⟩ : BufTy).Contents (Elt Ideal)) (x1 : (⟨S1024, .f32⟩ : BufTy).Contents (Elt Ideal))
  (x2 : (⟨S1024x3072, .f32⟩ : BufTy).Contents (Elt Ideal)) (x3 : (⟨S3x1024, .f32⟩ : BufTy).Contents (Elt Ideal))
  (x4 : (⟨S1024, .f32⟩ : BufTy).Contents (Elt Ideal)) (x5 : (⟨S1024x1024, .f32⟩ : BufTy).Contents (Elt Ideal))

/-- One element of the in-projection. -/
theorem in_apply (b : Fin 8) (τ' : Fin 4096) (f : Fin 3072) : val_main_v13 x0 x1 x2 (ix3 b τ' f) =
    proj (fun k => x0 (ix3 b τ' k)) (fun k => x1 (ix1 k)) (fun k => x2 (ix2 k f)) := by
  unfold proj
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]

/-- The padded convolution input `2 - k` rows down: the input `k` time steps earlier, zero before the sequence begins. -/
theorem pad_apply (b : Fin 8) (τ' : Fin 4096) (k : ℕ) (hk : k ≤ 2) (j : Fin 1024) :
    val_main_v18 x0 x1 x2 (ix3 b (⟨2 - k + τ'.val, by omega⟩ : Fin 4098) j) =
      past (convIn (fun τ'' l => x0 (ix3 b τ'' l)) (fun l => x1 (ix1 l)) (fun l j => x2 (ix2 l j)) j) τ'.val k := by
  pointwise [val_main_v18]
  unfold past
  by_cases h : k ≤ τ'.val
  · rw [dif_pos (by omega), dif_pos (by omega)]
    pointwise [val_main_v17, val_main_v16, val_main_v15]
    rw [in_apply, in_apply]
    unfold convIn gated
    have hτ : (⟨2 - k + τ'.val - 2, by omega⟩ : Fin 4096) = ⟨τ'.val - k, by omega⟩ := Fin.ext (by simp only []; omega)
    simp only [hτ]
  · rw [dif_neg (by omega), dif_neg (by omega)]
    pointwise [val_main_call0_v0, val_main_c]
    show (((0#32 : BitVec 32).toInt : ℝ) : EReal) = 0
    simp

/-- The convolution at one row and column. -/
theorem conv_apply (b : Fin 8) (τ' : Fin 4096) (j : Fin 1024) : val_main_v41 x0 x1 x2 x3 x4 (ix3 b τ' j) =
    conv (x3 (ix2 0 j)) (x3 (ix2 1 j)) (x3 (ix2 2 j)) (x4 (ix1 j))
      (past (convIn (fun τ'' l => x0 (ix3 b τ'' l)) (fun l => x1 (ix1 l)) (fun l j => x2 (ix2 l j)) j) τ'.val 2)
      (past (convIn (fun τ'' l => x0 (ix3 b τ'' l)) (fun l => x1 (ix1 l)) (fun l j => x2 (ix2 l j)) j) τ'.val 1)
      (past (convIn (fun τ'' l => x0 (ix3 b τ'' l)) (fun l => x1 (ix1 l)) (fun l j => x2 (ix2 l j)) j) τ'.val 0) := by
  rw [← pad_apply _ _ _ _ _ 2 (by norm_num), ← pad_apply _ _ _ _ _ 1 (by norm_num), ← pad_apply _ _ _ _ _ 0 (by norm_num)]
  unfold conv
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19]

/-- The result at a row and column. -/
theorem out_apply (r : Fin 32768) (f : Fin 1024) : val_main_v45 x0 x1 x2 x3 x4 x5 (ix2 r f) =
    layer (fun τ'' l => x0 (ix3 (⟨r.val / 4096, by omega⟩ : Fin 8) τ'' l)) (fun l => x1 (ix1 l)) (fun l j => x2 (ix2 l j))
      (fun k j => x3 (ix2 k j)) (fun j => x4 (ix1 j)) (fun j l => x5 (ix2 j l)) ⟨r.val % 4096, Nat.mod_lt _ (by norm_num)⟩ f := by
  unfold layer mix
  simp only [← in_apply]
  rw [val_main_v45_apply, show idx_main_v45 (ix2 r f) = ix3 (⟨r.val / 4096, by omega⟩ : Fin 8) (⟨r.val % 4096, Nat.mod_lt _ (by norm_num)⟩ : Fin 4096) f from
    funext fun a => by fin_cases a <;> (apply Fin.ext; simp <;> omega)]
  pointwise [val_main_v44, val_main_v43, val_main_v42, val_main_v14]
  simp only [conv_apply]

end Cert.OddReferenceIdeal.Result
-- ==== Proof.OddClaim.lean ====
/-
The gated-convolution call's claims: the kernel and the plain computation end with equal results.
-/
module

public import proofs.«01_k».proof.Defs
public import proofs.«01_k».proof.Proof.OddKernelValue
public import proofs.«01_k».proof.Proof.OddReferenceValue
public import proofs.«01_k».proof.Proof.Gen.OddKernelIdeal
public import proofs.«01_k».proof.Proof.Gen.OddReferenceIdeal

@[expose] public section

set_option maxRecDepth 16384

noncomputable section

namespace Cert.Proof

open Idealize.ShloMosaic Idealize.SL.Sem

/-- From memories that agree on the arguments the two gated-convolution programs end with equal results. -/
theorem odd_algebraic : Cert.algebraic_OddKernelIdeal_OddReferenceIdeal (hOddKernelIdeal := Cert.OddKernelIdeal.Gen.facts)
    (hOddReferenceIdeal := Cert.OddReferenceIdeal.Gen.facts) := by
  intro m ρ m' ρ' _ hagree
  refine ⟨fun c => Cert.OddKernelIdeal.Result.result m c, Cert.OddKernelIdeal.Result.run m ρ, ?_⟩
  refine (θ_run Cert.OddReferenceIdeal.defs _ _).mono (fun _ h c => ⟨(h c).1.trans ?_, (h c).2⟩) (Cert.OddReferenceIdeal.Value.run (F := Ideal) m' ρ')
  obtain ⟨h0, h1, h2, h3, h4, h5⟩ := hagree c
  rw [Cert.OddReferenceIdeal.Read.val_main_v45_eq, h0, h1, h2, h3, h4, h5]
  funext i
  have hi : i = ix2 (i 0 : Fin 32768) (i 1 : Fin 1024) := funext fun a => by fin_cases a <;> rfl
  rw [hi]
  exact Cert.OddReferenceIdeal.Result.out_apply _ _ _ _ _ _ (i 0) (i 1)

end Cert.Proof
-- ==== Proof.MemSpec.lean ====
/-
Attention over a memory as functions of tables of extended reals, and the two orders in which its softmax may be taken.
-/
module

public import proofs.«01_k».proof.Proof.FfnSpec

@[expose] public section

noncomputable section

namespace Cert.MemSpec

open Idealize.ShloMosaic Cert.FfnSpec

/-! ## One head -/

/-- A head's row scaled by the reciprocal root of its mean square and by a gain. -/
def headNorm (z g : Fin 128 → EReal) (d : Fin 128) : EReal :=
  z d * Ideal.rsqrt (Ideal.div (∑ l : Fin 128, z l * z l) (Ideal.ofBits FTy.f32 1124073472#32) + Ideal.ofBits FTy.f32 897988541#32) * g d

/-- The score of a query and a key, the query scaled by the reciprocal root of its length. -/
def score (q k : Fin 128 → EReal) : EReal := ∑ d : Fin 128, q d * Ideal.ofBits FTy.f32 1035273459#32 * k d

/-- The greatest of a row of scores. -/
def top (s : Fin 256 → EReal) : EReal := Finset.univ.fold max (Ideal.ofBits FTy.f32 4286578688#32) s

/-- The weight of an entry before normalising. -/
def weight (s : Fin 256 → EReal) (n : Fin 256) : EReal := Ideal.exp (s n - top s)

/-- The weighted mean of the values: the weighted sum over the sum of the weights. -/
def mix (s v : Fin 256 → EReal) : EReal := Ideal.div (∑ n : Fin 256, weight s n * v n) (∑ n : Fin 256, weight s n)

/-- One element of a head's output, from the head's raw query row, its gain, the keys and a column of the values. -/
def head (z g : Fin 128 → EReal) (k : Fin 256 → Fin 128 → EReal) (v : Fin 256 → EReal) : EReal :=
  mix (fun n => score (headNorm z g) (k n)) v

/-- Column `c` of head `h` among the columns of four heads. -/
def col (h : Fin 4) (c : Fin 128) : Fin 512 := ⟨128 * h.val + c.val, by omega⟩

/-- The output row: the residual and the heads' outputs through the out-projection. -/
def out (x : EReal) (o : Fin 4 → Fin 128 → EReal) (w : Fin 512 → EReal) : EReal :=
  x + ∑ j : Fin 512, o ⟨j.val / 128, by omega⟩ ⟨j.val % 128, Nat.mod_lt _ (by norm_num)⟩ * w j

/-! ## The same with the scale and the division taken elsewhere -/

/-- The score with the scale taken last. -/
def scoreLast (q k : Fin 128 → EReal) : EReal := (∑ d : Fin 128, q d * k d) * Ideal.ofBits FTy.f32 1035273459#32

/-- The weighted mean with every weight normalised before it is used. -/
def mixFirst (s v : Fin 256 → EReal) : EReal := ∑ n : Fin 256, Ideal.div (weight s n) (∑ n' : Fin 256, weight s n') * v n

/-- The head with the scale taken last and the weights normalised first. -/
def headPlain (z g : Fin 128 → EReal) (k : Fin 256 → Fin 128 → EReal) (v : Fin 256 → EReal) : EReal :=
  mixFirst (fun n => scoreLast (headNorm z g) (k n)) v

/-! ## Finite values -/

/-- An extended real that is a real. -/
def IsReal (x : EReal) : Prop := ∃ r : ℝ, x = r

/-- A product of real values is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A value that is neither infinity is real. -/
theorem IsReal.of_ne {x : EReal} (ht : x ≠ ⊤) (hb : x ≠ ⊥) : IsReal x := ⟨x.toReal, (EReal.coe_toReal ht hb).symm⟩

/-- A sum of real numbers read as extended reals. -/
theorem coe_sum {n : ℕ} (r : Fin n → ℝ) : ((∑ i, r i : ℝ) : EReal) = ∑ i, (r i : EReal) := by
  induction n with
  | zero => simp
  | succ n ih => rw [Fin.sum_univ_succ, Fin.sum_univ_succ, EReal.coe_add, ih]

/-- A sum of real values is real. -/
theorem IsReal.sum {n : ℕ} (f : Fin n → EReal) (hf : ∀ i, IsReal (f i)) : IsReal (∑ i, f i) := by
  choose r hr using hf
  exact ⟨∑ i, r i, by rw [coe_sum]; exact Finset.sum_congr rfl fun i _ => hr i⟩

/-- A finite factor that is not negative moves into a sum. -/
theorem sum_mul_finite {n : ℕ} (f : Fin n → EReal) {c : EReal} (h0 : 0 ≤ c) (ht : c ≠ ⊤) : (∑ i, f i) * c = ∑ i, f i * c := by
  induction n with
  | zero => simp
  | succ n ih => rw [Fin.sum_univ_succ, Fin.sum_univ_succ, EReal.right_distrib_of_nonneg_of_ne_top h0 ht, ih]

/-- The score scale is a nonnegative real. -/
theorem scale_real : ∃ r : ℝ, 0 ≤ r ∧ Ideal.ofBits FTy.f32 1035273459#32 = r := by
  refine ⟨Ideal.ofBits FTy.f32 1035273459#32 |>.toReal, ?_, ?_⟩ <;> simp [Ideal.ofBits, Ideal.ieee, -EReal.coe_mul]

/-- The head width is a positive real. -/
theorem length_real : ∃ r : ℝ, 0 < r ∧ Ideal.ofBits FTy.f32 1124073472#32 = r := by
  refine ⟨128, by norm_num, ?_⟩
  simp [Ideal.ofBits, Ideal.ieee, -EReal.coe_mul]; norm_num

/-- The small number of the norm is a positive real. -/
theorem eps_real : ∃ r : ℝ, 0 < r ∧ Ideal.ofBits FTy.f32 897988541#32 = r := by
  refine ⟨Ideal.ofBits FTy.f32 897988541#32 |>.toReal, ?_, ?_⟩ <;> simp [Ideal.ofBits, Ideal.ieee, -EReal.coe_mul]

/-- The word the maximum starts from is minus infinity. -/
theorem least : Ideal.ofBits FTy.f32 4286578688#32 = ⊥ := by simp [Ideal.ofBits, Ideal.ieee]

/-- The word the precondition compares with is plus infinity. -/
theorem greatest : Ideal.ofBits FTy.f32 2139095040#32 = ⊤ := by simp [Ideal.ofBits, Ideal.ieee]

/-- A square is not negative. -/
theorem sq_nonneg' (x : EReal) : 0 ≤ x * x := by
  rcases le_total 0 x with h | h
  · exact mul_nonneg h h
  · rw [← neg_mul_neg]; exact mul_nonneg (EReal.neg_nonneg.mpr h) (EReal.neg_nonneg.mpr h)

/-- A row divided by the root of its mean square is finite, whatever the row holds. -/
theorem norm_real (z : Fin 128 → EReal) (d : Fin 128) : IsReal (z d * Ideal.rsqrt (Ideal.div (∑ l : Fin 128, z l * z l) (Ideal.ofBits FTy.f32 1124073472#32) +
    Ideal.ofBits FTy.f32 897988541#32)) := by
  obtain ⟨n, hn, en⟩ := length_real
  obtain ⟨e, he, ee⟩ := eps_real
  rw [en, ee]
  have hn0 : (n : EReal) ≠ 0 := by exact_mod_cast hn.ne'
  have hS : 0 ≤ ∑ l : Fin 128, z l * z l := Finset.sum_nonneg fun l _ => sq_nonneg' (z l)
  have hd : z d * z d ≤ ∑ l : Fin 128, z l * z l := Finset.single_le_sum (fun l _ => sq_nonneg' (z l)) (Finset.mem_univ d)
  rw [Ideal.div, if_neg hn0, ← EReal.coe_inv]
  generalize (∑ l : Fin 128, z l * z l) = S at hS hd
  by_cases ht : S = ⊤
  · rw [ht, EReal.top_mul_coe_of_pos (inv_pos.mpr hn), EReal.top_add_coe]
    exact ⟨0, by rw [show Ideal.rsqrt ⊤ = 0 from rfl]; simp⟩
  · obtain ⟨s, rfl⟩ := IsReal.of_ne ht (by rintro rfl; simp at hS)
    have hs : 0 ≤ s := by exact_mod_cast hS
    have hz : IsReal (z d) := by
      refine IsReal.of_ne ?_ ?_ <;> intro h <;> rw [h] at hd <;> simp at hd
    rw [← EReal.coe_mul, ← EReal.coe_add]
    have hp : 0 < s * n⁻¹ + e := by positivity
    refine hz.mul ⟨(Real.sqrt (s * n⁻¹ + e))⁻¹, ?_⟩
    rw [show Ideal.rsqrt ((s * n⁻¹ + e : ℝ) : EReal) = if s * n⁻¹ + e < 0 then ⊥ else if s * n⁻¹ + e = 0 then ⊤ else
      (((Real.sqrt (s * n⁻¹ + e))⁻¹ : ℝ) : EReal) from rfl, if_neg (not_lt.mpr hp.le), if_neg hp.ne']

/-- A head's normalised row is finite when its gain is. -/
theorem headNorm_real (z g : Fin 128 → EReal) (hg : ∀ d, IsReal (g d)) (d : Fin 128) : IsReal (headNorm z g d) := (norm_real z d).mul (hg d)

/-- The scale moves out of the score's sum. -/
theorem score_eq (q k : Fin 128 → EReal) : score q k = scoreLast q k := by
  obtain ⟨r, hr, e⟩ := scale_real
  unfold score scoreLast
  rw [e, sum_mul_finite _ (by exact_mod_cast hr) (EReal.coe_ne_top r)]
  exact Finset.sum_congr rfl fun d _ => mul_right_comm _ _ _

/-- The score of finite rows is finite. -/
theorem score_real (q k : Fin 128 → EReal) (hq : ∀ d, IsReal (q d)) (hk : ∀ d, IsReal (k d)) : IsReal (score q k) := by
  obtain ⟨r, hr, e⟩ := scale_real
  exact IsReal.sum _ fun d => ((hq d).mul ⟨r, e⟩).mul (hk d)

/-- The greatest of finite scores is finite. -/
theorem top_real (s : Fin 256 → EReal) (hs : ∀ n, IsReal (s n)) : IsReal (top s) := by
  have hle : s 0 ≤ top s := (Finset.le_fold_max _).mpr (.inr ⟨0, Finset.mem_univ _, le_rfl⟩)
  have h := (Finset.le_fold_max (s := Finset.univ) (f := s) (b := Ideal.ofBits FTy.f32 4286578688#32) (top s)).mp le_rfl
  obtain ⟨r, hr⟩ := hs 0
  have hb : top s ≠ ⊥ := by
    intro q
    rw [q, hr] at hle
    exact absurd hle (by simp)
  rcases h with h | ⟨n, _, h⟩
  · rw [least] at h
    exact absurd (le_bot_iff.mp h) hb
  · obtain ⟨r', hr'⟩ := hs n
    refine IsReal.of_ne (fun q => ?_) hb
    rw [q, hr'] at h
    exact absurd h (by simp)

/-- The weights of finite scores are positive reals. -/
theorem weight_real (s : Fin 256 → EReal) (hs : ∀ n, IsReal (s n)) (n : Fin 256) : ∃ r : ℝ, 0 < r ∧ weight s n = r := by
  obtain ⟨a, ha⟩ := hs n
  obtain ⟨b, hb⟩ := top_real s hs
  refine ⟨Real.exp (a - b), Real.exp_pos _, ?_⟩
  unfold weight
  rw [ha, hb, ← EReal.coe_sub]
  rfl

/-- Over finite scores it does not matter whether the weights are normalised before or after the sum. -/
theorem mix_eq (s v : Fin 256 → EReal) (hs : ∀ n, IsReal (s n)) : mix s v = mixFirst s v := by
  choose p hp hw using weight_real s hs
  have hsum : ∑ n : Fin 256, weight s n = ((∑ n : Fin 256, p n : ℝ) : EReal) := by
    rw [coe_sum]
    exact Finset.sum_congr rfl fun n _ => hw n
  have hpos : 0 < ∑ n : Fin 256, p n := Finset.sum_pos (fun n _ => hp n) ⟨0, Finset.mem_univ _⟩
  unfold mix mixFirst
  rw [hsum]
  generalize (∑ n : Fin 256, p n) = L at hpos
  have hL : (L : EReal) ≠ 0 := by exact_mod_cast hpos.ne'
  simp only [Ideal.div, if_neg hL]
  rw [← EReal.coe_inv, sum_mul_finite _ (by exact_mod_cast (inv_pos.mpr hpos).le) (EReal.coe_ne_top _)]
  exact Finset.sum_congr rfl fun n _ => mul_right_comm _ _ _

/-- With finite gains the two orders of a head agree. -/
theorem head_eq (z g : Fin 128 → EReal) (k : Fin 256 → Fin 128 → EReal) (v : Fin 256 → EReal) (hg : ∀ d, IsReal (g d)) (hk : ∀ n d, IsReal (k n d)) :
    head z g k v = headPlain z g k v := by
  unfold head headPlain
  rw [mix_eq _ _ fun n => score_real _ _ (headNorm_real z g hg) (hk n)]
  simp only [score_eq]

end Cert.MemSpec
-- ==== Proof.MemKeysPoint.lean ====
/-
One layer's keys and values, element by element: what the body stores at a point of the grid.
-/
module

public import proofs.«01_k».proof.Proof.Gen.MemKernelIdeal.Frame
public import proofs.«01_k».proof.Proof.Pieces
public import proofs.«01_k».proof.Proof.MemSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MemKernelIdeal.Result

open Cert.MemKernelIdeal Cert.MemKernelIdeal.Gen Idealize.ShloMosaic Idealize.ShloMosaic.TcCoe Idealize.SL.Sem
open Cert.FfnSpec (proj)
open Cert.MemSpec Cert.Pieces

section Keys

variable (x0 : Vec Ideal S2048x1024 .f32) (x1 : Vec Ideal S1x1x1024 .f32) (x2 : Vec Ideal S1x1024x1024 .bf16) (x3 : Vec Ideal S1x1x128 .f32)

/-- Column `f` of the projection of memory row `r`. -/
def kvCol (r : Fin 2048) (f : Fin 1024) : EReal := proj (fun k => x0 (ix2 r k)) (fun k => x1 (ix3 0 0 k)) (fun k => x2 (ix3 0 k f))

/-- A column of the memory's projection at a tile row. -/
theorem kv_point (r : Fin 2048) (f : Fin 1024) :
    k0_pay3 (F := Ideal) (View.ld x0 r0_0) (View.ld x1 r0_1) (View.ld x2 r0_2) (ix2 r f) = kvCol x0 x1 x2 r f := by
  unfold kvCol proj
  pointwise [k0_pay3]

/-- The stored keys' row `r` at a column: the head's normalised columns of the projection. -/
theorem keys_point (r : Fin 2048) (j : Fin 512) :
    k0_pay1 (F := Ideal) (k0_pay7 (k0_pay8 x0 x1 x2 x3) (k0_pay4 (View.ld x0 r0_0) (View.ld x1 r0_1) (View.ld x2 r0_2) (View.ld x3 r0_3))
      (k0_pay5 (View.ld x0 r0_0) (View.ld x1 r0_1) (View.ld x2 r0_2)) (k0_pay6 (View.ld x3 r0_3)) (View.ld x3 r0_3) (View.ld x3 r0_3)) (ix3 0 r j) =
      headNorm (fun c => kvCol x0 x1 x2 r ⟨128 * (j.val / 128) + c.val, by omega⟩) (fun c => x3 (ix3 0 0 c)) ⟨j.val % 128, Nat.mod_lt _ (by norm_num)⟩ := by
  unfold headNorm
  simp only [← kv_point]
  unfold k0_pay4 k0_pay5 k0_pay8
  generalize k0_pay3 (F := Ideal) (View.ld x0 r0_0) (View.ld x1 r0_1) (View.ld x2 r0_2) = v
  pointwise [k0_pay1, k0_pay7, k0_pay6]
  by_cases h0 : j.val < 128
  · rw [dif_pos h0]
    simp only [show j.val / 128 = 0 by omega, show j.val % 128 = j.val by omega, Nat.mul_zero, Nat.zero_add]
  rw [dif_neg h0]
  by_cases h1 : j.val - 128 < 128
  · rw [dif_pos h1]
    simp only [show j.val / 128 = 1 by omega, show j.val % 128 = j.val - 128 by omega, Nat.mul_one]
  rw [dif_neg h1]
  by_cases h2 : j.val - 128 - 128 < 128
  · rw [dif_pos h2]
    simp only [show j.val / 128 = 2 by omega, show j.val % 128 = j.val - 128 - 128 by omega, Nat.reduceMul]
  rw [dif_neg h2]
  simp only [show j.val / 128 = 3 by omega, show j.val % 128 = j.val - 128 - 128 - 128 by omega, Nat.reduceMul]

/-- The stored values' row `r`: the projection's columns behind the keys'. -/
theorem values_point (r : Fin 2048) (j : Fin 512) :
    k0_pay2 (F := Ideal) (k0_pay8 x0 x1 x2 x3) (ix3 0 r j) = kvCol x0 x1 x2 r ⟨512 + j.val, by omega⟩ := by
  simp only [← kv_point]
  unfold k0_pay8
  generalize k0_pay3 (F := Ideal) (View.ld x0 r0_0) (View.ld x1 r0_1) (View.ld x2 r0_2) = v
  pointwise [k0_pay2]

end Keys

end Cert.MemKernelIdeal.Result
-- ==== Proof.MemKeysValue.lean ====
/-
The keys and values of the memory, layer by layer: the arrays the first region leaves.
-/
module

public import proofs.«01_k».proof.Proof.MemKeysPoint

@[expose] public section

set_option maxRecDepth 16384

noncomputable section

namespace Cert.MemKernelIdeal.Result

open Cert.MemKernelIdeal Cert.MemKernelIdeal.Gen Idealize.ShloMosaic Idealize.ShloMosaic.TcCoe Idealize.SL.Sem
open Idealize.ShloMosaic.Pipeline (Dat)
open Cert.FfnSpec (proj)
open Cert.MemSpec Cert.Pieces

variable (m : (ℓ : Loc nD τ sig) → Buf (Elt Ideal) ℓ) (ρ : Dev nD → PrngReg)

/-- The residual stream entering the call, as a table. -/
def xT (c : Dev nD) (b : Fin 8) (τ' : Fin 4096) (k : Fin 1024) : EReal := m ((c : Thread nD τ).loc main_arg0) (ix3 b τ' k)
/-- The memory. -/
def memT (c : Dev nD) (b : Fin 8) (n : Fin 256) (k : Fin 1024) : EReal := m ((c : Thread nD τ).loc main_arg1) (ix3 b n k)
/-- The stream's norm gain. -/
def gT (c : Dev nD) (k : Fin 1024) : EReal := m ((c : Thread nD τ).loc main_arg2) (ix1 k)
/-- The memory's norm gain of a layer. -/
def gmT (c : Dev nD) (l : Fin 4) (k : Fin 1024) : EReal := m ((c : Thread nD τ).loc main_arg3) (ix2 l k)
/-- The queries' projection. -/
def wqT (c : Dev nD) (k : Fin 1024) (f : Fin 512) : EReal := m ((c : Thread nD τ).loc main_arg4) (ix2 k f)
/-- The keys' and values' projection of a layer. -/
def wkvT (c : Dev nD) (l : Fin 4) (k f : Fin 1024) : EReal := m ((c : Thread nD τ).loc main_arg5) (ix3 l k f)
/-- The out-projection. -/
def woT (c : Dev nD) (j : Fin 512) (f : Fin 1024) : EReal := m ((c : Thread nD τ).loc main_arg6) (ix2 j f)
/-- The queries' head gain. -/
def gqT (c : Dev nD) (d : Fin 128) : EReal := m ((c : Thread nD τ).loc main_arg7) (ix1 d)
/-- The keys' head gain of a layer. -/
def gkT (c : Dev nD) (l : Fin 4) (d : Fin 128) : EReal := m ((c : Thread nD τ).loc main_arg8) (ix2 l d)

/-- Column `f` of layer `l`'s keys' and values' projection of a memory row. -/
def kv (c : Dev nD) (l : Fin 4) (b : Fin 8) (n : Fin 256) (f : Fin 1024) : EReal := proj (memT m c b n) (gmT m c l) fun k => wkvT m c l k f

/-- The key's element `j` of layer `l`, at a memory row. -/
def key (c : Dev nD) (l : Fin 4) (b : Fin 8) (n : Fin 256) (j : Fin 512) : EReal :=
  headNorm (fun d => kv m c l b n ⟨128 * (j.val / 128) + d.val, by omega⟩) (gkT m c l) ⟨j.val % 128, Nat.mod_lt _ (by norm_num)⟩

/-- The value's element `j` of layer `l`, at a memory row. -/
def value (c : Dev nD) (l : Fin 4) (b : Fin 8) (n : Fin 256) (j : Fin 512) : EReal := kv m c l b n ⟨512 + j.val, by omega⟩

/-- The keys' array at a layer and a row of all batches. -/
def keyAt (c : Dev nD) (l : Fin 4) (r : Fin 2048) (j : Fin 512) : EReal := key m c l ⟨r.val / 256, by omega⟩ ⟨r.val % 256, Nat.mod_lt _ (by norm_num)⟩ j
/-- The values' array at a layer and a row of all batches. -/
def valueAt (c : Dev nD) (l : Fin 4) (r : Fin 2048) (j : Fin 512) : EReal := value m c l ⟨r.val / 256, by omega⟩ ⟨r.val % 256, Nat.mod_lt _ (by norm_num)⟩ j

/-- The keys' array. -/
def keys (c : Dev nD) : Buf (Elt Ideal) ((c : Thread nD τ).loc main_v4_0) := fun i => keyAt m c (i 0) (i 1) (i 2)
/-- The values' array. -/
def values (c : Dev nD) : Buf (Elt Ideal) ((c : Thread nD τ).loc main_v4_1) := fun i => valueAt m c (i 0) (i 1) (i 2)

/-- Where each window of the first region stands at a point. -/
theorem idx0 : ∀ t : Fin cfg0.N, win0_0.index t = ![0, 0] ∧ win0_1.index t = ![t.val, 0, 0] ∧ win0_2.index t = ![t.val, 0, 0] ∧
    win0_3.index t = ![t.val, 0, 0] ∧ win0_4.index t = ![t.val, 0, 0] ∧ win0_5.index t = ![t.val, 0, 0] :=
  (by decide +kernel : ∀ t : Fin grid0.N, _)

/-- The region finds the memory's rows one batch under another. -/
theorem rows0 (c : Dev nD) : V1 m ρ c main_v0 = shapeCast S2048x1024 (m ((c : Thread nD τ).loc main_arg1)) shapeCasts_S8x256x1024_S2048x1024 := by
  dsimp only [V1, W1, hostOps0]
  simp only [StableHlo.after_cons, StableHlo.after_nil]
  after_results_simp
  rfl

/-- The first region finds the memory gains, one row per layer. -/
theorem gains0 (c : Dev nD) : V1 m ρ c main_v1 = shapeCast S4x1x1024 (m ((c : Thread nD τ).loc main_arg3)) shapeCasts_S4x1024_S4x1x1024 := by
  dsimp only [V1, W1, hostOps0]
  simp only [StableHlo.after_cons, StableHlo.after_nil]
  after_results_simp
  rfl

set_option maxHeartbeats 4000000 in
/-- The first region finds the memory's weights unchanged. -/
theorem weights0 (c : Dev nD) : V1 m ρ c main_v2 = m ((c : Thread nD τ).loc main_arg5) := by
  dsimp only [V1, W1, hostOps0]
  simp only [StableHlo.after_cons, StableHlo.after_nil]
  after_results_simp
  rfl

/-- The first region finds the key head's gains, one row per layer. -/
theorem headGains0 (c : Dev nD) : V1 m ρ c main_v3 = shapeCast S4x1x128 (m ((c : Thread nD τ).loc main_arg8)) shapeCasts_S4x128_S4x1x128 := by
  dsimp only [V1, W1, hostOps0]
  simp only [StableHlo.after_cons, StableHlo.after_nil]
  after_results_simp
  rfl

/-- Batches one under another, read at a row. -/
theorem batches (y : FVec Ideal S8x256x1024 .f32) (r : Fin 2048) (k : Fin 1024) :
    shapeCast S2048x1024 y shapeCasts_S8x256x1024_S2048x1024 (ix2 r k) = y (ix3 ⟨r.val / 256, by omega⟩ ⟨r.val % 256, Nat.mod_lt _ (by norm_num)⟩ k) := by
  pointwise

/-- The layers of a gain table, one row each. -/
theorem layers (y : FVec Ideal S4x1024 .f32) (l : Fin 4) (k : Fin 1024) :
    shapeCast S4x1x1024 y shapeCasts_S4x1024_S4x1x1024 (ix3 l 0 k) = y (ix2 l k) := by
  pointwise

/-- The layers of a head gain table, one row each. -/
theorem headLayers (y : FVec Ideal S4x128 .f32) (l : Fin 4) (d : Fin 128) :
    shapeCast S4x1x128 y shapeCasts_S4x128_S4x1x128 (ix3 l 0 d) = y (ix2 l d) := by
  pointwise

/-- First window: the block it holds at a point, element by element. -/
theorem blk0_0 (c : Dev nD) (t : Fin cfg0.N) (r : Fin 2048) (k : Fin 1024) : iblk0 (V1 m ρ) c 0 t (ix2 r k) =
    memT m c ⟨r.val / 256, by omega⟩ ⟨r.val % 256, Nat.mod_lt _ (by norm_num)⟩ k := by
  have h : iblk0 (V1 m ρ) c 0 t (ix2 r k) = V1 m ρ c main_v0 (ix2 r k) := by blk_ext [iblk0, idx0 t]
  rw [h, rows0]
  exact batches _ r k

/-- Second window: the block it holds at a point, element by element. -/
theorem blk0_1 (c : Dev nD) (t : Fin cfg0.N) (k : Fin 1024) : iblk0 (V1 m ρ) c 1 t (ix3 0 0 k) = gmT m c t k := by
  have h : iblk0 (V1 m ρ) c 1 t (ix3 0 0 k) = V1 m ρ c main_v1 (ix3 (t : Fin 4) 0 k) := by blk_ext [iblk0, idx0 t]
  rw [h, gains0]
  exact layers _ t k

/-- Third window: the block it holds at a point, element by element. -/
theorem blk0_2 (c : Dev nD) (t : Fin cfg0.N) (k f : Fin 1024) : iblk0 (V1 m ρ) c 2 t (ix3 0 k f) = wkvT m c t k f := by
  have h : iblk0 (V1 m ρ) c 2 t (ix3 0 k f) = V1 m ρ c main_v2 (ix3 (t : Fin 4) k f) := by blk_ext [iblk0, idx0 t]
  rw [h, weights0]
  rfl

/-- Fourth window: the block it holds at a point, element by element. -/
theorem blk0_3 (c : Dev nD) (t : Fin cfg0.N) (d : Fin 128) : iblk0 (V1 m ρ) c 3 t (ix3 0 0 d) = gkT m c t d := by
  have h : iblk0 (V1 m ρ) c 3 t (ix3 0 0 d) = V1 m ρ c main_v3 (ix3 (t : Fin 4) 0 d) := by blk_ext [iblk0, idx0 t]
  rw [h, headGains0]
  exact headLayers _ t d

/-- A column of a point's projection, by layer, batch and memory row. -/
theorem kvCol_eq (c : Dev nD) (t : Fin cfg0.N) (r : Fin 2048) (f : Fin 1024) :
    kvCol (iblk0 (V1 m ρ) c 0 t) (iblk0 (V1 m ρ) c 1 t) (iblk0 (V1 m ρ) c 2 t) r f =
      kv m c t ⟨r.val / 256, by omega⟩ ⟨r.val % 256, Nat.mod_lt _ (by norm_num)⟩ f := by
  unfold kvCol kv
  congr 1
  · funext k
    exact blk0_0 m ρ c t r k
  · funext k
    exact blk0_1 m ρ c t k
  · funext k
    exact blk0_2 m ρ c t k f

/-- A point's block of the keys is its layer's. -/
theorem tileKeys (c : Dev nD) (t : Fin grid0.N) (y : S1x2048x512.Idx) :
    out0_4 (iblk0 (V1 m ρ) c 0 t) (iblk0 (V1 m ρ) c 1 t) (iblk0 (V1 m ρ) c 2 t) (iblk0 (V1 m ρ) c 3 t) y = keys m c (((cfg0.win 4).blk t).view.emb y) := by
  have hp : ((cfg0.win 4).blk t).view.emb y = (ix3 (t : Fin 4) (y 1 : Fin 2048) (y 2 : Fin 512) : S4x2048x512.Idx) := by
    have h0 : (y 0).val = 0 := Nat.lt_one_iff.mp (y 0).isLt
    blk_ext [idx0 t]
  obtain ⟨r, j, rfl⟩ : ∃ (r : Fin 2048) (j : Fin 512), y = ix3 0 r j := ⟨y 1, y 2, funext fun a => by
    fin_cases a
    · exact Subsingleton.elim (α := Fin 1) _ _
    · rfl
    · rfl⟩
  rw [hp]
  show _ = keyAt m c _ _ _
  unfold out0_4
  rw [canon_hit _ _ _ (ix3 0 r j) _ (by funext a; fin_cases a <;> (apply Fin.ext; simp))]
  refine (keys_point _ _ _ _ r j).trans ?_
  simp only [kvCol_eq, blk0_3]
  rfl

/-- A point's block of the values is its layer's. -/
theorem tileValues (c : Dev nD) (t : Fin grid0.N) (y : S1x2048x512.Idx) :
    out0_5 (iblk0 (V1 m ρ) c 0 t) (iblk0 (V1 m ρ) c 1 t) (iblk0 (V1 m ρ) c 2 t) (iblk0 (V1 m ρ) c 3 t) y = values m c (((cfg0.win 5).blk t).view.emb y) := by
  have hp : ((cfg0.win 5).blk t).view.emb y = (ix3 (t : Fin 4) (y 1 : Fin 2048) (y 2 : Fin 512) : S4x2048x512.Idx) := by
    have h0 : (y 0).val = 0 := Nat.lt_one_iff.mp (y 0).isLt
    blk_ext [idx0 t]
  obtain ⟨r, j, rfl⟩ : ∃ (r : Fin 2048) (j : Fin 512), y = ix3 0 r j := ⟨y 1, y 2, funext fun a => by
    fin_cases a
    · exact Subsingleton.elim (α := Fin 1) _ _
    · rfl
    · rfl⟩
  rw [hp]
  show _ = valueAt m c _ _ _
  unfold out0_5
  rw [canon_hit _ _ _ (ix3 0 r j) _ (by funext a; fin_cases a <;> (apply Fin.ext; simp))]
  refine (values_point _ _ _ _ r j).trans ?_
  simp only [kvCol_eq]
  rfl

/-- After the first region the keys' array is the closed form. -/
theorem finalKeys (c : Dev nD) : (dat0 (V1 m ρ) c).arrAt 4 cfg0.N = keys m c :=
  (dat0 (V1 m ρ) c).arrAt_eq_of_covers 4 _ (by decide +kernel) fun t hf y => (congrFun (after0_4 (V1 m ρ) c t) y).trans (tileKeys m ρ c t y)

/-- After the first region the values' array is the closed form. -/
theorem finalValues (c : Dev nD) : (dat0 (V1 m ρ) c).arrAt 5 cfg0.N = values m c :=
  (dat0 (V1 m ρ) c).arrAt_eq_of_covers 5 _ (by decide +kernel) fun t hf y => (congrFun (after0_5 (V1 m ρ) c t) y).trans (tileValues m ρ c t y)

end Cert.MemKernelIdeal.Result
-- ==== Proof.MemHeadPoint.lean ====
/-
One tile of the attention over the memory, element by element: what the body stores at a point of the grid.
-/
module

public import proofs.«01_k».proof.Proof.Gen.MemKernelIdeal.Frame
public import proofs.«01_k».proof.Proof.Pieces
public import proofs.«01_k».proof.Proof.MemSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MemKernelIdeal.Result

open Cert.MemKernelIdeal Cert.MemKernelIdeal.Gen Idealize.ShloMosaic Idealize.ShloMosaic.TcCoe Idealize.SL.Sem
open Cert.FfnSpec (proj)
open Cert.MemSpec Cert.Pieces

section Heads

variable (x0 : Vec Ideal S256x1024 .f32) (x1 : Vec Ideal S1x1024 .f32) (x2 : Vec Ideal S1024x512 .bf16) (x3 : Vec Ideal S1x128 .f32)
  (x4 : Vec Ideal S1x256x512 .bf16) (x5 : Vec Ideal S1x256x512 .bf16) (x6 : Vec Ideal S512x1024 .bf16)

/-- Column `f` of the queries' projection of row `r`. -/
def qCol (r : Fin 256) (f : Fin 512) : EReal := proj (fun k => x0 (ix2 r k)) (fun k => x1 (ix2 0 k)) (fun k => x2 (ix2 k f))

/-- A column of the query projection at a tile row. -/
theorem q_point (r : Fin 256) (f : Fin 512) :
    k1_pay3 (F := Ideal) (View.ld x0 r1_0) (View.ld x1 r1_1) (View.ld x2 r1_2) (ix2 r f) = qCol x0 x1 x2 r f := by
  unfold qCol proj
  pointwise [k1_pay3, k1_pay2]

/-- Output `c` of the head whose columns start at `o`, at row `r`. -/
def headAt (o : Fin 385) (r : Fin 256) (c : Fin 128) : EReal :=
  head (fun d => qCol x0 x1 x2 r ⟨o.val + d.val, by omega⟩) (fun d => x3 (ix2 0 d)) (fun n d => x4 (ix3 0 n ⟨o.val + d.val, by omega⟩))
    fun n => x5 (ix3 0 n ⟨o.val + c.val, by omega⟩)

/-- The first head at a tile row. -/
theorem head0_point (r : Fin 256) (c : Fin 128) :
    k1_pay8 (F := Ideal) (k1_pay18 x0 x1 x2 x3 x4 x5 x6) (k1_pay19 x0 x1 x2 x3 x4 x5 x6) (k1_pay6 (View.ld x3 r1_4))
      (k1_pay7 (View.ld x0 r1_0) (View.ld x1 r1_1) (View.ld x2 r1_2)) (ix2 r c) = headAt x0 x1 x2 x3 x4 x5 0 r c := by
  unfold headAt head mix weight top score headNorm
  simp only [← q_point]
  unfold k1_pay7 k1_pay18 k1_pay19
  generalize k1_pay3 (F := Ideal) (View.ld x0 r1_0) (View.ld x1 r1_1) (View.ld x2 r1_2) = q
  pointwise [k1_pay8, k1_pay6, k1_pay4, k1_pay5]

/-- The second head at a tile row. -/
theorem head1_point (r : Fin 256) (c : Fin 128) :
    k1_pay12 (F := Ideal) (k1_pay9 (k1_pay17 x0 x1 x2 x3 x4 x5 x6) (k1_pay18 x0 x1 x2 x3 x4 x5 x6) (View.ld x3 r1_4))
      (k1_pay10 (k1_pay17 x0 x1 x2 x3 x4 x5 x6) (k1_pay18 x0 x1 x2 x3 x4 x5 x6) (View.ld x3 r1_4))
      (k1_pay11 (k1_pay19 x0 x1 x2 x3 x4 x5 x6)) (constant S256x128 .f32 0x00000000#32) (ix2 r c) = headAt x0 x1 x2 x3 x4 x5 128 r c := by
  unfold headAt head mix weight top score headNorm
  simp only [← q_point]
  unfold k1_pay17 k1_pay18 k1_pay19
  generalize k1_pay3 (F := Ideal) (View.ld x0 r1_0) (View.ld x1 r1_1) (View.ld x2 r1_2) = q
  pointwise [k1_pay12, k1_pay9, k1_pay10, k1_pay11, k1_pay4, k1_pay5]

/-- The third head at a tile row. -/
theorem head2_point (r : Fin 256) (c : Fin 128) :
    k1_pay13 (F := Ideal) (k1_pay17 x0 x1 x2 x3 x4 x5 x6) (k1_pay18 x0 x1 x2 x3 x4 x5 x6) (k1_pay19 x0 x1 x2 x3 x4 x5 x6) (View.ld x3 r1_4) (ix2 r c) =
      headAt x0 x1 x2 x3 x4 x5 256 r c := by
  unfold headAt head mix weight top score headNorm
  simp only [← q_point]
  unfold k1_pay17 k1_pay18 k1_pay19
  generalize k1_pay3 (F := Ideal) (View.ld x0 r1_0) (View.ld x1 r1_1) (View.ld x2 r1_2) = q
  pointwise [k1_pay13, k1_pay4, k1_pay5]

/-- The four heads' outputs side by side. -/
def joined (u0 u1 u2 u3 : FVec Ideal S256x128 .f32) : FVec Ideal S256x512 .f32 :=
  concatenate S256x512 1 [⟨S256x128, u0⟩, ⟨S256x128, u1⟩, ⟨S256x128, u2⟩, ⟨S256x128, u3⟩] concatenates_S256x128_S256x128_S256x128_S256x128_S256x512_d1

/-- Side by side, column `j` is a column of the head it falls into. -/
theorem joined_point (u0 u1 u2 u3 : FVec Ideal S256x128 .f32) (r : Fin 256) (o : Fin 4 → Fin 128 → EReal)
    (h0 : ∀ c, u0 (ix2 r c) = o 0 c) (h1 : ∀ c, u1 (ix2 r c) = o 1 c) (h2 : ∀ c, u2 (ix2 r c) = o 2 c) (h3 : ∀ c, u3 (ix2 r c) = o 3 c) (j : Fin 512) :
    joined u0 u1 u2 u3 (ix2 r j) = o ⟨j.val / 128, by omega⟩ ⟨j.val % 128, Nat.mod_lt _ (by norm_num)⟩ := by
  pointwise [joined]
  by_cases d0 : j.val < 128
  · rw [dif_pos d0, h0]
    simp only [show j.val / 128 = 0 by omega, show j.val % 128 = j.val by omega]
    rfl
  rw [dif_neg d0]
  by_cases d1 : j.val - 128 < 128
  · rw [dif_pos d1, h1]
    simp only [show j.val / 128 = 1 by omega, show j.val % 128 = j.val - 128 by omega]
    rfl
  rw [dif_neg d1]
  by_cases d2 : j.val - 128 - 128 < 128
  · rw [dif_pos d2, h2]
    simp only [show j.val / 128 = 2 by omega, show j.val % 128 = j.val - 128 - 128 by omega]
    rfl
  rw [dif_neg d2, h3]
  simp only [show j.val / 128 = 3 by omega, show j.val % 128 = j.val - 128 - 128 - 128 by omega]
  rfl

/-- The last head inside the output's payload. -/
theorem head3_point (v1 : FVec Ideal S256x1024 .f32) (u0 u1 u2 : FVec Ideal S256x128 .f32) (w : Vec Ideal S512x1024 .bf16) :
    ∃ u3 : FVec Ideal S256x128 .f32, (∀ r c, u3 (ix2 r c) = headAt x0 x1 x2 x3 x4 x5 384 r c) ∧
      k1_pay1 (F := Ideal) v1 (k1_pay18 x0 x1 x2 x3 x4 x5 x6) (k1_pay19 x0 x1 x2 x3 x4 x5 x6) u0 u1 u2
        (k1_pay14 (k1_pay17 x0 x1 x2 x3 x4 x5 x6)) (k1_pay15 (View.ld x3 r1_4)) (k1_pay16 (k1_pay17 x0 x1 x2 x3 x4 x5 x6)) w =
      addf v1 (matmul dot_S256x512_S512x1024_S256x1024_1_0_0_1_n_n none (truncf .bf16 (joined u0 u1 u2 u3) bitsLt_bf16_f32)
        (shapeCast S512x1024 w shapeCasts_S512x1024_S512x1024 : FVec Ideal S512x1024 .bf16) (constant S256x1024 .f32 0x00000000#32)) := by
  refine ⟨_, fun r c => ?_, rfl⟩
  unfold headAt head mix weight top score headNorm
  simp only [← q_point]
  unfold k1_pay17 k1_pay18 k1_pay19
  generalize k1_pay3 (F := Ideal) (View.ld x0 r1_0) (View.ld x1 r1_1) (View.ld x2 r1_2) = q
  pointwise [k1_pay14, k1_pay15, k1_pay16, k1_pay4, k1_pay5]

/-- The output at a row and column. -/
theorem tile_point (r : Fin 256) (f : Fin 1024) (u0 u1 u2 : FVec Ideal S256x128 .f32) (o : Fin 4 → Fin 128 → EReal)
    (h0 : ∀ c, u0 (ix2 r c) = o 0 c) (h1 : ∀ c, u1 (ix2 r c) = o 1 c) (h2 : ∀ c, u2 (ix2 r c) = o 2 c) (h3 : ∀ c, headAt x0 x1 x2 x3 x4 x5 384 r c = o 3 c) :
    k1_pay1 (F := Ideal) (k1_pay2 (View.ld x0 r1_0)) (k1_pay18 x0 x1 x2 x3 x4 x5 x6) (k1_pay19 x0 x1 x2 x3 x4 x5 x6) u0 u1 u2
      (k1_pay14 (k1_pay17 x0 x1 x2 x3 x4 x5 x6)) (k1_pay15 (View.ld x3 r1_4)) (k1_pay16 (k1_pay17 x0 x1 x2 x3 x4 x5 x6)) (View.ld x6 r1_5) (ix2 r f) =
      out (x0 (ix2 r f)) o (fun j => x6 (ix2 j f)) := by
  obtain ⟨u3, e3, e⟩ := head3_point x0 x1 x2 x3 x4 x5 x6 (k1_pay2 (View.ld x0 r1_0)) u0 u1 u2 (View.ld x6 r1_5)
  refine (congrFun e _).trans ?_
  have hj := joined_point u0 u1 u2 u3 r o h0 h1 h2 fun c => (e3 r c).trans (h3 c)
  unfold out
  simp only [← hj]
  generalize joined u0 u1 u2 u3 = J
  pointwise [k1_pay2]

end Heads

end Cert.MemKernelIdeal.Result
-- ==== Proof.MemKernelValue.lean ====
/-
The attention over the memory: the array the second region leaves.
-/
module

public import proofs.«01_k».proof.Proof.MemKeysValue
public import proofs.«01_k».proof.Proof.MemHeadPoint

@[expose] public section

set_option maxRecDepth 16384

noncomputable section

namespace Cert.MemKernelIdeal.Result

open Cert.MemKernelIdeal Cert.MemKernelIdeal.Gen Idealize.ShloMosaic Idealize.ShloMosaic.TcCoe Idealize.SL.Sem
open Idealize.ShloMosaic.Pipeline (Dat)
open Cert.FfnSpec (proj)
open Cert.MemSpec Cert.Pieces

variable (m : (ℓ : Loc nD τ sig) → Buf (Elt Ideal) ℓ) (ρ : Dev nD → PrngReg)

/-- Column `f` of the queries' projection at a batch and time. -/
def query (c : Dev nD) (b : Fin 8) (τ' : Fin 4096) (f : Fin 512) : EReal := proj (xT m c b τ') (gT m c) fun k => wqT m c k f

/-- Output `d` of head `h` at a batch and time, over the last layer's keys and values. -/
def headOut (c : Dev nD) (b : Fin 8) (τ' : Fin 4096) (h : Fin 4) (d : Fin 128) : EReal :=
  head (fun d' => query m c b τ' (col h d')) (gqT m c) (fun n d' => key m c 3 b n (col h d')) fun n => value m c 3 b n (col h d)

/-- The result at a row and column. -/
def val (c : Dev nD) (r : Fin 32768) (f : Fin 1024) : EReal :=
  out (xT m c ⟨r.val / 4096, by omega⟩ ⟨r.val % 4096, Nat.mod_lt _ (by norm_num)⟩ f)
    (headOut m c ⟨r.val / 4096, by omega⟩ ⟨r.val % 4096, Nat.mod_lt _ (by norm_num)⟩) fun j => woT m c j f

/-- The result array. -/
def result (c : Dev nD) : Buf (Elt Ideal) ((c : Thread nD τ).loc main_v12) := fun i => val m c (i 0) (i 1)

/-- Where each window of the second region stands at a point. -/
theorem idx1 : ∀ t : Fin cfg1.N, win1_0.index t = ![t.val, 0] ∧ win1_1.index t = ![0, 0] ∧ win1_2.index t = ![0, 0] ∧
    win1_3.index t = ![0, 0] ∧ win1_4.index t = ![24 + t.val / 16, 0, 0] ∧ win1_5.index t = ![24 + t.val / 16, 0, 0] ∧ win1_6.index t = ![0, 0] ∧
    win1_7.index t = ![t.val, 0] :=
  (by decide +kernel : ∀ t : Fin grid1.N, _)

/-- The number of a point is below the number of points. -/
theorem lt_points1 (t : Fin cfg1.N) : t.val < 128 := lt_of_lt_of_eq t.isLt N_1

/-- A point's row lies in the array. -/
theorem row_lt1 (t : Fin cfg1.N) (r : Fin 256) : 256 * t.val + r.val < 32768 := by have := lt_points1 t; omega

/-! ## What the region finds -/

/-- The first region leaves the arguments as they were. -/
theorem args1 (c : Dev nD) (a : Ref sig .tc) (ha : a ∈ argRefs) : W2 m ρ c (Proc.devRef .tc a) = m ((c : Thread nD τ).loc a) := W2_args m ρ c a ha

/-- The second region finds the keys' array regrouped by layer and batch. -/
theorem keys1 (c : Dev nD) : V3 m ρ c main_v5 = shapeCast S32x256x512 (keys m c) shapeCasts_S4x2048x512_S32x256x512 := by
  have h : V3 m ρ c main_v5 = shapeCast S32x256x512 (W2 m ρ c (Proc.devRef .tc main_v4_0)) shapeCasts_S4x2048x512_S32x256x512 := by
    dsimp only [V3, W3, hostOps1]
    simp only [StableHlo.after_cons, StableHlo.after_nil]
    after_results_simp
    rfl
  rw [h, show W2 m ρ c (Proc.devRef .tc main_v4_0) = keys m c from (W2_arr m ρ c 4).trans (finalKeys m ρ c)]

/-- The second region finds the values' array regrouped by layer and batch. -/
theorem values1 (c : Dev nD) : V3 m ρ c main_v6 = shapeCast S32x256x512 (values m c) shapeCasts_S4x2048x512_S32x256x512 := by
  have h : V3 m ρ c main_v6 = shapeCast S32x256x512 (W2 m ρ c (Proc.devRef .tc main_v4_1)) shapeCasts_S4x2048x512_S32x256x512 := by
    dsimp only [V3, W3, hostOps1]
    simp only [StableHlo.after_cons, StableHlo.after_nil]
    after_results_simp
    rfl
  rw [h, show W2 m ρ c (Proc.devRef .tc main_v4_1) = values m c from (W2_arr m ρ c 5).trans (finalValues m ρ c)]

/-- The second region finds the input as rows. -/
theorem rows1 (c : Dev nD) : V3 m ρ c main_v7 = shapeCast S32768x1024 (m ((c : Thread nD τ).loc main_arg0)) shapeCasts_S8x4096x1024_S32768x1024 := by
  rw [← args1 m ρ c main_arg0 (by decide)]
  dsimp only [V3, W3, hostOps1]
  simp only [StableHlo.after_cons, StableHlo.after_nil]
  after_results_simp
  rfl

/-- The second region finds the input gains as one row. -/
theorem gains1 (c : Dev nD) : V3 m ρ c main_v8 = shapeCast S1x1024 (m ((c : Thread nD τ).loc main_arg2)) shapeCasts_S1024_S1x1024 := by
  rw [← args1 m ρ c main_arg2 (by decide)]
  dsimp only [V3, W3, hostOps1]
  simp only [StableHlo.after_cons, StableHlo.after_nil]
  after_results_simp
  rfl

/-- The second region finds the query weights unchanged. -/
theorem wq1 (c : Dev nD) : V3 m ρ c main_v9 = m ((c : Thread nD τ).loc main_arg4) := by
  rw [← args1 m ρ c main_arg4 (by decide)]
  dsimp only [V3, W3, hostOps1]
  simp only [StableHlo.after_cons, StableHlo.after_nil]
  after_results_simp
  rfl

/-- The second region finds the query head's gains as one row. -/
theorem headGains1 (c : Dev nD) : V3 m ρ c main_v10 = shapeCast S1x128 (m ((c : Thread nD τ).loc main_arg7)) shapeCasts_S128_S1x128 := by
  rw [← args1 m ρ c main_arg7 (by decide)]
  dsimp only [V3, W3, hostOps1]
  simp only [StableHlo.after_cons, StableHlo.after_nil]
  after_results_simp
  rfl

/-- The second region finds the output weights unchanged. -/
theorem wo1 (c : Dev nD) : V3 m ρ c main_v11 = m ((c : Thread nD τ).loc main_arg6) := by
  rw [← args1 m ρ c main_arg6 (by decide)]
  dsimp only [V3, W3, hostOps1]
  simp only [StableHlo.after_cons, StableHlo.after_nil]
  after_results_simp
  rfl

/-! ## The staged blocks -/

/-- Layers and batches one under another, read at a place. -/
theorem perBatch (y : FVec Ideal S4x2048x512 .bf16) (q : Fin 8) (n : Fin 256) (j : Fin 512) :
    shapeCast S32x256x512 y shapeCasts_S4x2048x512_S32x256x512 (ix3 ⟨24 + q.val, by omega⟩ n j) = y (ix3 3 ⟨256 * q.val + n.val, by omega⟩ j) := by
  pointwise
  exact congrArg₂ (fun l r => y (ix3 l r j)) (Fin.ext (show (24 + q.val) / 8 = 3 by omega))
    (Fin.ext (show (24 + q.val) % 8 * 256 + n.val = 256 * q.val + n.val by omega))

/-- The rows of all batches, row by row. -/
theorem streams (y : FVec Ideal S8x4096x1024 .f32) (r : Fin 32768) (k : Fin 1024) :
    shapeCast S32768x1024 y shapeCasts_S8x4096x1024_S32768x1024 (ix2 r k) = y (ix3 ⟨r.val / 4096, by omega⟩ ⟨r.val % 4096, Nat.mod_lt _ (by norm_num)⟩ k) := by
  pointwise

/-- A vector as one row. -/
theorem oneRow (y : FVec Ideal S1024 .f32) (k : Fin 1024) : shapeCast S1x1024 y shapeCasts_S1024_S1x1024 (ix2 0 k) = y (ix1 k) := by
  pointwise

/-- A head vector as one row. -/
theorem oneHeadRow (y : FVec Ideal S128 .f32) (d : Fin 128) : shapeCast S1x128 y shapeCasts_S128_S1x128 (ix2 0 d) = y (ix1 d) := by
  pointwise

/-- First window: the block it holds at a point, element by element. -/
theorem blk1_0 (c : Dev nD) (t : Fin cfg1.N) (r : Fin 256) (k : Fin 1024) : iblk1 (V3 m ρ) c 0 t (ix2 r k) =
    xT m c ⟨(256 * t.val + r.val) / 4096, by have := lt_points1 t; omega⟩ ⟨(256 * t.val + r.val) % 4096, Nat.mod_lt _ (by norm_num)⟩ k := by
  have h : iblk1 (V3 m ρ) c 0 t (ix2 r k) = V3 m ρ c main_v7 (ix2 (⟨256 * t.val + r.val, row_lt1 t r⟩ : Fin 32768) k) := by blk_ext [iblk1, idx1 t]
  rw [h, rows1]
  exact streams _ _ k

/-- Second window: the block it holds at a point, element by element. -/
theorem blk1_1 (c : Dev nD) (t : Fin cfg1.N) (k : Fin 1024) : iblk1 (V3 m ρ) c 1 t (ix2 0 k) = gT m c k := by
  have h : iblk1 (V3 m ρ) c 1 t (ix2 0 k) = V3 m ρ c main_v8 (ix2 0 k) := by blk_ext [iblk1, idx1 t]
  rw [h, gains1]
  exact oneRow _ k

/-- Third window: the block it holds at a point, element by element. -/
theorem blk1_2 (c : Dev nD) (t : Fin cfg1.N) (k : Fin 1024) (f : Fin 512) : iblk1 (V3 m ρ) c 2 t (ix2 k f) = wqT m c k f := by
  have h : iblk1 (V3 m ρ) c 2 t (ix2 k f) = V3 m ρ c main_v9 (ix2 k f) := by blk_ext [iblk1, idx1 t]
  rw [h, wq1]
  rfl

/-- Fourth window: the block it holds at a point, element by element. -/
theorem blk1_3 (c : Dev nD) (t : Fin cfg1.N) (d : Fin 128) : iblk1 (V3 m ρ) c 3 t (ix2 0 d) = gqT m c d := by
  have h : iblk1 (V3 m ρ) c 3 t (ix2 0 d) = V3 m ρ c main_v10 (ix2 0 d) := by blk_ext [iblk1, idx1 t]
  rw [h, headGains1]
  exact oneHeadRow _ d

/-- The batch a point works on. -/
def batch (t : Fin cfg1.N) : Fin 8 := ⟨t.val / 16, by have := lt_points1 t; omega⟩

/-- Fifth window: the block it holds at a point, element by element. -/
theorem blk1_4 (c : Dev nD) (t : Fin cfg1.N) (n : Fin 256) (j : Fin 512) : iblk1 (V3 m ρ) c 4 t (ix3 0 n j) = key m c 3 (batch t) n j := by
  have h : iblk1 (V3 m ρ) c 4 t (ix3 0 n j) = V3 m ρ c main_v5 (ix3 (⟨24 + (batch t).val, by omega⟩ : Fin 32) n j) := by blk_ext [iblk1, idx1 t, batch]
  rw [h, keys1, perBatch]
  show keyAt m c 3 _ j = _
  unfold keyAt
  congr 1
  · exact Fin.ext (show (256 * (batch t).val + n.val) / 256 = (batch t).val by omega)
  · exact Fin.ext (show (256 * (batch t).val + n.val) % 256 = n.val by omega)

/-- Sixth window: the block it holds at a point, element by element. -/
theorem blk1_5 (c : Dev nD) (t : Fin cfg1.N) (n : Fin 256) (j : Fin 512) : iblk1 (V3 m ρ) c 5 t (ix3 0 n j) = value m c 3 (batch t) n j := by
  have h : iblk1 (V3 m ρ) c 5 t (ix3 0 n j) = V3 m ρ c main_v6 (ix3 (⟨24 + (batch t).val, by omega⟩ : Fin 32) n j) := by blk_ext [iblk1, idx1 t, batch]
  rw [h, values1, perBatch]
  show valueAt m c 3 _ j = _
  unfold valueAt
  congr 1
  · exact Fin.ext (show (256 * (batch t).val + n.val) / 256 = (batch t).val by omega)
  · exact Fin.ext (show (256 * (batch t).val + n.val) % 256 = n.val by omega)

/-- Seventh window: the block it holds at a point, element by element. -/
theorem blk1_6 (c : Dev nD) (t : Fin cfg1.N) (j : Fin 512) (f : Fin 1024) : iblk1 (V3 m ρ) c 6 t (ix2 j f) = woT m c j f := by
  have h : iblk1 (V3 m ρ) c 6 t (ix2 j f) = V3 m ρ c main_v11 (ix2 j f) := by blk_ext [iblk1, idx1 t]
  rw [h, wo1]
  rfl

/-! ## The tiles -/

/-- A column of a point's queries, by batch and time. -/
theorem qCol_eq (c : Dev nD) (t : Fin cfg1.N) (r : Fin 256) (f : Fin 512) :
    qCol (iblk1 (V3 m ρ) c 0 t) (iblk1 (V3 m ρ) c 1 t) (iblk1 (V3 m ρ) c 2 t) r f =
      query m c ⟨(256 * t.val + r.val) / 4096, by have := lt_points1 t; omega⟩ ⟨(256 * t.val + r.val) % 4096, Nat.mod_lt _ (by norm_num)⟩ f := by
  unfold qCol query
  congr 1
  · funext k
    exact blk1_0 m ρ c t r k
  · funext k
    exact blk1_1 m ρ c t k
  · funext k
    exact blk1_2 m ρ c t k f

/-- A point's head, by batch and time. -/
theorem headAt_eq (c : Dev nD) (t : Fin cfg1.N) (r : Fin 256) (h : Fin 4) (d : Fin 128) :
    headAt (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t)
      ⟨128 * h.val, by omega⟩ r d =
      headOut m c ⟨(256 * t.val + r.val) / 4096, by have := lt_points1 t; omega⟩ ⟨(256 * t.val + r.val) % 4096, Nat.mod_lt _ (by norm_num)⟩ h d := by
  have hb : batch t = ⟨(256 * t.val + r.val) / 4096, by have := lt_points1 t; omega⟩ :=
    Fin.ext (show t.val / 16 = (256 * t.val + r.val) / 4096 by omega)
  unfold headAt headOut
  simp only [qCol_eq, blk1_3, blk1_4, blk1_5, hb]
  rfl

/-- A point's block of the output is the result's rows it lies at. -/
theorem tileOut (c : Dev nD) (t : Fin grid1.N) (y : S256x1024.Idx) :
    out1_7 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t)
      (iblk1 (V3 m ρ) c 6 t) y = result m c (((cfg1.win 7).blk t).view.emb y) := by
  have hp : ((cfg1.win 7).blk t).view.emb y = (ix2 (⟨256 * t.val + (y 0 : Fin 256).val, row_lt1 t (y 0)⟩ : Fin 32768) (y 1 : Fin 1024) : S32768x1024.Idx) := by
    blk_ext [idx1 t]
  obtain ⟨r, f, rfl⟩ : ∃ (r : Fin 256) (f : Fin 1024), y = ix2 r f := ⟨y 0, y 1, funext fun a => by fin_cases a <;> rfl⟩
  rw [hp]
  show _ = val m c _ _
  unfold out1_7
  rw [canon_hit _ _ _ (ix2 r f) _ (by funext a; fin_cases a <;> (apply Fin.ext; simp))]
  refine (tile_point _ _ _ _ _ _ _ r f _ _ _ _ (fun d => (head0_point _ _ _ _ _ _ _ r d).trans (headAt_eq m ρ c t r 0 d))
    (fun d => (head1_point _ _ _ _ _ _ _ r d).trans (headAt_eq m ρ c t r 1 d)) (fun d => (head2_point _ _ _ _ _ _ _ r d).trans (headAt_eq m ρ c t r 2 d))
    fun d => headAt_eq m ρ c t r 3 d).trans ?_
  simp only [blk1_0, blk1_6]
  rfl

/-- After the second region the result array is the closed form. -/
theorem finalOut (c : Dev nD) : (dat1 (V3 m ρ) c).arrAt 7 cfg1.N = result m c :=
  (dat1 (V3 m ρ) c).arrAt_eq_of_covers 7 _ (by decide +kernel) fun t hf y => (congrFun (after1_7 (V3 m ρ) c t) y).trans (tileOut m ρ c t y)

end Cert.MemKernelIdeal.Result
-- ==== Proof.MemRun.lean ====
/-
The run of the attention over the memory: both regions, one after the other, to the result array's closed form.
-/
module

public import proofs.«01_k».proof.Proof.MemKernelValue
public import Idealize.ShloMosaic.Lib.Pipeline.RegionsLoop
public import Idealize.ShloMosaic.Lib.Tactic

@[expose] public section

set_option maxRecDepth 16384

noncomputable section

namespace Cert.MemKernelIdeal.Result

open Cert.MemKernelIdeal Cert.MemKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

-- the launch's implicit arguments are read off the conclusion
set_option backward.isDefEq.respectTransparency.types false in
/-- The run of both regions: the result array is the closed form and the arguments are unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨(h c _ (mem_uc main_v12 (by decide))).trans ((W4_arr m ρ c 7).trans (finalOut m ρ c)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩)

end Cert.MemKernelIdeal.Result
-- ==== Proof.MemReferenceValue.lean ====
/-
The attention over the memory computed plainly: its result at a place, from the projections inwards.
-/
module

public import proofs.«01_k».proof.Proof.Gen.MemReferenceIdeal.Read
public import proofs.«01_k».proof.Proof.MemSpec
public import Idealize.ShloMosaic.Lib.Pipeline.ValueKit
public import Idealize.ShloMosaic.Lib.Pointwise

@[expose] public section

set_option maxRecDepth 16384

noncomputable section

namespace Cert.MemReferenceIdeal.Result

open Cert.MemReferenceIdeal Cert.MemReferenceIdeal.Gen Cert.MemReferenceIdeal.Read Idealize.ShloMosaic Idealize.ShloMosaic.TcCoe Idealize.SL.Sem
open Cert.FfnSpec (proj)
open Cert.MemSpec

variable (x0 : (⟨S8x4096x1024, .f32⟩ : BufTy).Contents (Elt Ideal)) (x1 : (⟨S8x256x1024, .f32⟩ : BufTy).Contents (Elt Ideal))
  (x2 : (⟨S1024, .f32⟩ : BufTy).Contents (Elt Ideal)) (x3 : (⟨S4x1024, .f32⟩ : BufTy).Contents (Elt Ideal))
  (x4 : (⟨S1024x512, .f32⟩ : BufTy).Contents (Elt Ideal)) (x5 : (⟨S4x1024x1024, .f32⟩ : BufTy).Contents (Elt Ideal))
  (x6 : (⟨S512x1024, .f32⟩ : BufTy).Contents (Elt Ideal)) (x7 : (⟨S128, .f32⟩ : BufTy).Contents (Elt Ideal))
  (x8 : (⟨S4x128, .f32⟩ : BufTy).Contents (Elt Ideal))

/-- A column of the query projection. -/
def query (b : Fin 8) (τ' : Fin 4096) (f : Fin 512) : EReal := proj (fun k => x0 (ix3 b τ' k)) (fun k => x2 (ix1 k)) fun k => x4 (ix2 k f)

/-- A column of the last layer's projection of the memory. -/
def kv (b : Fin 8) (n : Fin 256) (f : Fin 1024) : EReal := proj (fun k => x1 (ix3 b n k)) (fun k => x3 (ix2 3 k)) fun k => x5 (ix3 3 k f)

/-- Head `h`'s key of memory row `n`. -/
def key (b : Fin 8) (n : Fin 256) (h : Fin 4) (d : Fin 128) : EReal :=
  headNorm (fun l => kv x1 x3 x5 b n ⟨128 * h.val + l.val, by omega⟩) (fun l => x8 (ix2 3 l)) d

/-- Head `h`'s value of memory row `n`. -/
def value (b : Fin 8) (n : Fin 256) (h : Fin 4) (d : Fin 128) : EReal := kv x1 x3 x5 b n ⟨512 + (128 * h.val + d.val), by omega⟩

/-- Head `h`'s query. -/
def headQuery (b : Fin 8) (τ' : Fin 4096) (h : Fin 4) (d : Fin 128) : EReal :=
  headNorm (fun l => query x0 x2 x4 b τ' (col h l)) (fun l => x7 (ix1 l)) d

/-- A column of the query projection, as computed. -/
theorem query_apply (b : Fin 8) (τ' : Fin 4096) (f : Fin 512) : val_main_v28 x0 x2 x4 (ix3 b τ' f) = query x0 x2 x4 b τ' f := by
  unfold query proj
  pointwise [val_main_v28, val_main_v12, val_main_v11, val_main_v10, val_main_v9, val_main_v8, val_main_v7, val_main_v6, val_main_v5,
    val_main_cst_1, val_main_v4, val_main_v3, val_main_cst_0, val_main_v2, val_main_v1, val_main_cst, val_main_v0]

/-- A column of the memory's projection, as computed. -/
theorem kv_apply (b : Fin 8) (n : Fin 256) (f : Fin 1024) : val_main_v45 x1 x3 x5 (ix3 b n f) = kv x1 x3 x5 b n f := by
  unfold kv proj
  pointwise [val_main_v45, val_main_v44, val_main_v43, val_main_v27, val_main_v26, val_main_v25, val_main_v24, val_main_v23, val_main_v22,
    val_main_v21, val_main_v20, val_main_cst_4, val_main_v19, val_main_v18, val_main_cst_3, val_main_v17, val_main_v16, val_main_cst_2,
    val_main_v15, val_main_v14, val_main_v13]

/-- The projected queries, one head at a time. -/
theorem heads_apply (b : Fin 8) (τ' : Fin 4096) (h : Fin 4) (d : Fin 128) :
    val_main_v29 x0 x2 x4 (ix4 b τ' h d) = query x0 x2 x4 b τ' (col h d) := by
  rw [← query_apply]
  unfold col
  pointwise [val_main_v29]
  exact congrArg (fun j => val_main_v28 x0 x2 x4 (ix3 b τ' j)) (Fin.ext (by simp only []; omega))

/-- The projected keys, one head at a time. -/
theorem rawKeys_apply (b : Fin 8) (n : Fin 256) (h : Fin 4) (d : Fin 128) :
    val_main_v48 x1 x3 x5 (ix4 b n h d) = kv x1 x3 x5 b n ⟨128 * h.val + d.val, by omega⟩ := by
  rw [← kv_apply]
  pointwise [val_main_v48, val_main_v46]
  exact congrArg (fun j => val_main_v45 x1 x3 x5 (ix3 b n j)) (Fin.ext (by simp only []; omega))

/-- The values, one head at a time. -/
theorem values_apply (b : Fin 8) (n : Fin 256) (h : Fin 4) (d : Fin 128) : val_main_v64 x1 x3 x5 (ix4 b n h d) = value x1 x3 x5 b n h d := by
  unfold value
  rw [← kv_apply]
  pointwise [val_main_v64, val_main_v47]
  exact congrArg (fun j => val_main_v45 x1 x3 x5 (ix3 b n j)) (Fin.ext (by simp only []; omega))

/-- The normalised queries. -/
theorem queries_apply (b : Fin 8) (τ' : Fin 4096) (h : Fin 4) (d : Fin 128) :
    val_main_v42 x0 x2 x4 x7 (ix4 b τ' h d) = headQuery x0 x2 x4 x7 b τ' h d := by
  unfold headQuery headNorm
  simp only [← heads_apply]
  pointwise [val_main_v42, val_main_v41, val_main_v40, val_main_v39, val_main_v38, val_main_v37, val_main_v36, val_main_v35, val_main_cst_7,
    val_main_v34, val_main_v33, val_main_cst_6, val_main_v32, val_main_v31, val_main_cst_5, val_main_v30]

/-- The normalised keys. -/
theorem keys_apply (b : Fin 8) (n : Fin 256) (h : Fin 4) (d : Fin 128) : val_main_v63 x1 x3 x5 x8 (ix4 b n h d) = key x1 x3 x5 x8 b n h d := by
  unfold key headNorm
  simp only [← rawKeys_apply]
  pointwise [val_main_v63, val_main_v62, val_main_v61, val_main_v60, val_main_v59, val_main_v58, val_main_v57, val_main_v56, val_main_cst_10,
    val_main_v55, val_main_v54, val_main_cst_9, val_main_v53, val_main_v52, val_main_cst_8, val_main_v51, val_main_v50, val_main_v49]

/-- Head `h`'s score of memory row `n`. -/
def scoreAt (b : Fin 8) (h : Fin 4) (τ' : Fin 4096) (n : Fin 256) : EReal :=
  scoreLast (headQuery x0 x2 x4 x7 b τ' h) (key x1 x3 x5 x8 b n h)

/-- The scaled scores, as computed. -/
theorem scores_apply (b : Fin 8) (h : Fin 4) (τ' : Fin 4096) (n : Fin 256) :
    val_main_v67 x0 x1 x2 x3 x4 x5 x7 x8 (ix4 b h τ' n) = scoreAt x0 x1 x2 x3 x4 x5 x7 x8 b h τ' n := by
  unfold scoreAt scoreLast
  simp only [← queries_apply, ← keys_apply]
  pointwise [val_main_v67, val_main_v66, val_main_cst_11, val_main_v65]

/-- The largest of an array's last axis, as the host takes it. -/
theorem largest_apply (y : FVec Ideal S8x4x4096x256 .f32) (b : Fin 8) (h : Fin 4) (τ' : Fin 4096) :
    Host.reduce FloatOps.maximumf y (constant S_ .f32 0xFF800000#32) reducesTo_S8x4x4096x256_S8x4x4096_d3 h_S_ (ix3 b h τ') =
      top fun n => y (ix4 b h τ' n) := by
  unfold top
  simp only [pointwise]

/-- The larger of the least value and another is the other. -/
theorem bounded_apply (y : FVec Ideal S8x4x4096 .f32) (b : Fin 8) (h : Fin 4) (τ' : Fin 4096) :
    maximumf val_main_v69 y (ix3 b h τ') = y (ix3 b h τ') := by
  pointwise [val_main_v69, val_main_cst_13]
  rw [least]
  exact max_eq_right bot_le

/-- The largest score. -/
theorem tops_apply (b : Fin 8) (h : Fin 4) (τ' : Fin 4096) :
    val_main_v70 x0 x1 x2 x3 x4 x5 x7 x8 (ix3 b h τ') = top (scoreAt x0 x1 x2 x3 x4 x5 x7 x8 b h τ') := by
  unfold val_main_v70
  rw [bounded_apply]
  unfold val_main_v68 val_main_cst_12
  rw [largest_apply]
  exact congrArg top (funext fun n => scores_apply x0 x1 x2 x3 x4 x5 x7 x8 b h τ' n)

/-- The exponential weights. -/
theorem weights_apply (b : Fin 8) (h : Fin 4) (τ' : Fin 4096) (n : Fin 256) :
    val_main_v74 x0 x1 x2 x3 x4 x5 x7 x8 (ix4 b h τ' n) = weight (scoreAt x0 x1 x2 x3 x4 x5 x7 x8 b h τ') n := by
  unfold weight
  rw [← tops_apply, ← scores_apply]
  pointwise [val_main_v74, val_main_v73, val_main_v72, val_main_v71]

/-- The weights divided by their sum. -/
theorem shares_apply (b : Fin 8) (h : Fin 4) (τ' : Fin 4096) (n : Fin 256) :
    val_main_v78 x0 x1 x2 x3 x4 x5 x7 x8 (ix4 b h τ' n) = Ideal.div (weight (scoreAt x0 x1 x2 x3 x4 x5 x7 x8 b h τ') n)
      (∑ n' : Fin 256, weight (scoreAt x0 x1 x2 x3 x4 x5 x7 x8 b h τ') n') := by
  simp only [← weights_apply]
  pointwise [val_main_v78, val_main_v77, val_main_v76, val_main_v75, val_main_cst_14]

/-- One head's output. -/
def headOut (b : Fin 8) (τ' : Fin 4096) (h : Fin 4) (d : Fin 128) : EReal :=
  headPlain (fun l => query x0 x2 x4 b τ' (col h l)) (fun l => x7 (ix1 l)) (fun n => key x1 x3 x5 x8 b n h) fun n => value x1 x3 x5 b n h d

/-- The heads' outputs, as computed. -/
theorem mixed_apply (b : Fin 8) (h : Fin 4) (d : Fin 128) (τ' : Fin 4096) :
    val_main_v79 x0 x1 x2 x3 x4 x5 x7 x8 (ix4 b h d τ') = headOut x0 x1 x2 x3 x4 x5 x7 x8 b τ' h d := by
  have e : headOut x0 x1 x2 x3 x4 x5 x7 x8 b τ' h d =
      ∑ n : Fin 256, val_main_v78 x0 x1 x2 x3 x4 x5 x7 x8 (ix4 b h τ' n) * val_main_v64 x1 x3 x5 (ix4 b n h d) := by
    simp only [shares_apply, values_apply]
    rfl
  rw [e]
  simp only [mul_comm (val_main_v78 _ _ _ _ _ _ _ _ _)]
  pointwise [val_main_v79]

/-- Row `r`, column `f` of the result. -/
def val (r : Fin 32768) (f : Fin 1024) : EReal :=
  out (x0 (ix3 ⟨r.val / 4096, by omega⟩ ⟨r.val % 4096, Nat.mod_lt _ (by norm_num)⟩ f))
    (headOut x0 x1 x2 x3 x4 x5 x7 x8 ⟨r.val / 4096, by omega⟩ ⟨r.val % 4096, Nat.mod_lt _ (by norm_num)⟩) fun j => x6 (ix2 j f)

/-- The result, as computed. -/
theorem result_apply (r : Fin 32768) (f : Fin 1024) :
    val_main_v84 x0 x1 x2 x3 x4 x5 x6 x7 x8 (ix2 r f) = val x0 x1 x2 x3 x4 x5 x6 x7 x8 r f := by
  unfold val out
  simp only [← mixed_apply]
  pointwise [val_main_v84, val_main_v83, val_main_v82, val_main_v81, val_main_v80]

end Cert.MemReferenceIdeal.Result
-- ==== Proof.InSpec.lean ====
/-
The even layers' in-projection as a function of its tables: columns 0 to 963 and 964 to 1475 of the weights with sixty zero columns between.
-/
module

public import proofs.«01_k».proof.Proof.FfnSpec

@[expose] public section

noncomputable section

namespace Cert.InSpec

open Idealize.ShloMosaic Cert.FfnSpec

/-- A weight row with sixty zeros put in after its first 964 entries. -/
def spread (w : Fin 1476 → EReal) (j : Fin 1536) : EReal :=
  if h : j.val < 964 then w ⟨j.val, by omega⟩ else if h' : j.val < 1024 then 0 else w ⟨j.val - 60, by omega⟩

/-- Column `j` of the projection of a row. -/
def column (x g : Fin 1024 → EReal) (w : Fin 1024 → Fin 1476 → EReal) (j : Fin 1536) : EReal := proj x g fun k => spread (w k) j

/-- Before the zeros a column is the projection on the weight column of the same number. -/
theorem column_left (x g : Fin 1024 → EReal) (w : Fin 1024 → Fin 1476 → EReal) (j : Fin 1536) (h : j.val < 964) :
    column x g w j = proj x g fun k => w k ⟨j.val, by omega⟩ := by
  unfold column spread
  simp only [dif_pos h]

/-- At the zeros a column is zero. -/
theorem column_zero (x g : Fin 1024 → EReal) (w : Fin 1024 → Fin 1476 → EReal) (j : Fin 1536) (h : 964 ≤ j.val ∧ j.val < 1024) :
    column x g w j = 0 := by
  unfold column spread proj
  simp [dif_neg (Nat.not_lt.mpr h.1), dif_pos h.2]

/-- After the zeros a column is the projection on the weight column sixty numbers before. -/
theorem column_right (x g : Fin 1024 → EReal) (w : Fin 1024 → Fin 1476 → EReal) (j : Fin 1536) (h : 1024 ≤ j.val) :
    column x g w j = proj x g fun k => w k ⟨j.val - 60, by omega⟩ := by
  unfold column spread
  simp only [dif_neg (show ¬ j.val < 964 by omega), dif_neg (Nat.not_lt.mpr h)]

end Cert.InSpec
-- ==== Proof.InKernelValue.lean ====
/-
The even layers' in-projection kernel's result arrays.
-/
module

public import proofs.«01_k».proof.Proof.Gen.InKernelIdeal.Value
public import proofs.«01_k».proof.Proof.Pieces
public import proofs.«01_k».proof.Proof.InSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.InKernelIdeal.Result

open Cert.InKernelIdeal Cert.InKernelIdeal.Gen Idealize.ShloMosaic Idealize.ShloMosaic.TcCoe Idealize.SL.Sem
open Idealize.ShloMosaic.Pipeline (Dat)
open Cert.FfnSpec (proj)
open Cert.InSpec Cert.Pieces

variable (m : (ℓ : Loc nD τ sig) → Buf (Elt Ideal) ℓ) (ρ : Dev nD → PrngReg)

/-- The residual stream entering the call, as a table. -/
def xT (c : Dev nD) (b : Fin 8) (τ' : Fin 4096) (k : Fin 1024) : EReal := m ((c : Thread nD τ).loc main_arg0) (ix3 b τ' k)
/-- The norm gain. -/
def gT (c : Dev nD) (k : Fin 1024) : EReal := m ((c : Thread nD τ).loc main_arg1) (ix1 k)
/-- The in-projection. -/
def wT (c : Dev nD) (k : Fin 1024) (f : Fin 1476) : EReal := m ((c : Thread nD τ).loc main_arg2) (ix2 k f)

/-- Column `j` of the projection of row `r`. -/
def val (c : Dev nD) (r : Fin 32768) (j : Fin 1536) : EReal :=
  column (xT m c ⟨r.val / 4096, by omega⟩ ⟨r.val % 4096, Nat.mod_lt _ (by norm_num)⟩) (gT m c) (wT m c) j

/-- The queries, at row `r` and column `j`. -/
def valQ (c : Dev nD) (r : Fin 32768) (j : Fin 512) : EReal := val m c r ⟨0 + j.val, by omega⟩
/-- The queries. -/
def resultQ (c : Dev nD) : Buf (Elt Ideal) ((c : Thread nD τ).loc main_v7_0) := fun i => valQ m c (i 0) (i 1)
/-- The shared keys and values, at row `r` and column `j`. -/
def valKv (c : Dev nD) (r : Fin 32768) (j : Fin 128) : EReal := val m c r ⟨512 + j.val, by omega⟩
/-- The shared keys and values. -/
def resultKv (c : Dev nD) : Buf (Elt Ideal) ((c : Thread nD τ).loc main_v7_1) := fun i => valKv m c (i 0) (i 1)
/-- The indexer's queries, at row `r` and column `j`. -/
def valIq (c : Dev nD) (r : Fin 32768) (j : Fin 256) : EReal := val m c r ⟨640 + j.val, by omega⟩
/-- The indexer's queries. -/
def resultIq (c : Dev nD) : Buf (Elt Ideal) ((c : Thread nD τ).loc main_v7_2) := fun i => valIq m c (i 0) (i 1)
/-- The indexer's keys and head weights, padded with zero columns, at row `r` and column `j`. -/
def valIkw (c : Dev nD) (r : Fin 32768) (j : Fin 128) : EReal := val m c r ⟨896 + j.val, by omega⟩
/-- The indexer's keys and head weights, padded with zero columns. -/
def resultIkw (c : Dev nD) : Buf (Elt Ideal) ((c : Thread nD τ).loc main_v7_3) := fun i => valIkw m c (i 0) (i 1)
/-- The recurrence's input, time major: at time `τ'`, batch and channel `q`. -/
def valU (c : Dev nD) (τ' q : Fin 4096) : EReal := val m c ⟨4096 * (q.val / 512) + τ'.val, by omega⟩ ⟨1024 + q.val % 512, by omega⟩
/-- The recurrence's input, time major. -/
def resultU (c : Dev nD) : Buf (Elt Ideal) ((c : Thread nD τ).loc main_v7_4) := fun i => valU m c (i 0) (i 1)

/-- Where each window stands at a point. -/
theorem idx : ∀ t : Fin cfg0.N, win0_0.index t = ![t.val, 0] ∧ win0_1.index t = ![0, 0] ∧ win0_2.index t = ![0, 0] ∧
    win0_3.index t = ![t.val, 0] ∧ win0_4.index t = ![t.val, 0] ∧ win0_5.index t = ![t.val, 0] ∧ win0_6.index t = ![t.val, 0] ∧
    win0_7.index t = ![t.val % 8, t.val / 8] :=
  (by decide +kernel : ∀ t : Fin grid0.N, _)

/-- The number of a point is below the number of points. -/
theorem lt_points (t : Fin cfg0.N) : t.val < 64 := lt_of_lt_of_eq t.isLt N_0

/-- A point's row lies in the array. -/
theorem row_lt (t : Fin cfg0.N) (r : Fin 512) : 512 * t.val + r.val < 32768 := by have := lt_points t; omega

/-- A point's times lie in the sequence. -/
theorem time_lt (t : Fin cfg0.N) (r : Fin 512) : 512 * (t.val % 8) + r.val < 4096 := by omega

/-- A point's batch and channels lie in the array. -/
theorem chan_lt (t : Fin cfg0.N) (r : Fin 512) : 512 * (t.val / 8) + r.val < 4096 := by have := lt_points t; omega

/-- First window: the block it holds at a point, element by element. -/
theorem blk0 (c : Dev nD) (t : Fin cfg0.N) (r : Fin 512) (k : Fin 1024) : iblk m c 0 t (ix2 r k) =
    xT m c ⟨(512 * t.val + r.val) / 4096, by have := lt_points t; omega⟩ ⟨(512 * t.val + r.val) % 4096, Nat.mod_lt _ (by norm_num)⟩ k := by
  unfold xT
  blk_ext! [iblk, V, idx t]

/-- Second window: the block it holds at a point, element by element. -/
theorem blk1 (c : Dev nD) (t : Fin cfg0.N) (k : Fin 1024) : iblk m c 1 t (ix2 0 k) = gT m c k := by
  unfold gT
  blk_ext! [iblk, V, idx t]

/-- The weights as the host lays them out. -/
def laid (w : FVec Ideal S1024x1476 .f32) : FVec Ideal S1024x1536 .bf16 :=
  truncf .bf16 (concatenate S1024x1536 1 [⟨S1024x964, extractStridedSlice S1024x964 ![0, 0] w slices_S1024x1476_S1024x964_0_0⟩,
    ⟨S1024x60, broadcastInDim S1024x60 ![] bcast_S_S1024x60 (constant (F := Ideal) S_ .f32 0x00000000#32)⟩,
    ⟨S1024x512, extractStridedSlice S1024x512 ![0, 964] w slices_S1024x1476_S1024x512_0_964⟩]
    concatenates_S1024x964_S1024x60_S1024x512_S1024x1536_d1) bitsLt_bf16_f32

/-- The laid-out weights at a place: the argument's, zero in the sixty columns put in. -/
theorem laid_apply (w : FVec Ideal S1024x1476 .f32) (k : Fin 1024) (f : Fin 1536) : laid w (ix2 k f) = spread (fun j => w (ix2 k j)) f := by
  unfold spread
  pointwise [laid]
  by_cases h : f.val < 964
  · rw [dif_pos h, dif_pos h]
  · rw [dif_neg h, dif_neg h]
    by_cases h' : f.val < 1024
    · rw [dif_pos (by omega), dif_pos h']
    · rw [dif_neg (by omega), dif_neg h']
      exact congrArg (fun q => w (ix2 k q)) (Fin.ext (show 964 + (f.val - 964 - 60) = f.val - 60 by omega))

set_option maxHeartbeats 4000000 in
/-- The region finds the laid-out weights. -/
theorem weights (c : Dev nD) : V m c main_v6 = laid (m ((c : Thread nD τ).loc main_arg2)) := by
  dsimp only [V, hostOps0]
  simp only [StableHlo.after_cons, StableHlo.after_nil]
  after_results_simp
  rfl

/-- The staged weights are the argument's with sixty zero columns put in. -/
theorem blk2 (c : Dev nD) (t : Fin cfg0.N) (k : Fin 1024) (f : Fin 1536) : iblk m c 2 t (ix2 k f) = spread (wT m c k) f := by
  have h : iblk m c 2 t (ix2 k f) = V m c main_v6 (ix2 k f) := by blk_ext [iblk, idx t]
  rw [h, weights, laid_apply]
  rfl

/-- A column of the body's projection, in terms of the staged blocks. -/
theorem pay1_apply (x0 : Vec Ideal S512x1024 .f32) (x1 : Vec Ideal S1x1024 .f32) (x2 : Vec Ideal S1024x1536 .bf16) (r : Fin 512) (f : Fin 1536) :
    k0_pay1 (View.ld x0 r0_0) (View.ld x1 r0_1) (View.ld x2 r0_2) (ix2 r f) = proj (fun k => x0 (ix2 r k)) (fun k => x1 (ix2 0 k)) (fun k => x2 (ix2 k f)) := by
  unfold proj
  pointwise [k0_pay1]

/-- The body's projection at a point, in the result's closed form. -/
theorem point (c : Dev nD) (t : Fin cfg0.N) (r : Fin 512) (f : Fin 1536) :
    k0_pay1 (View.ld (iblk m c 0 t) r0_0) (View.ld (iblk m c 1 t) r0_1) (View.ld (iblk m c 2 t) r0_2) (ix2 r f) =
      val m c ⟨512 * t.val + r.val, by have := lt_points t; omega⟩ f := by
  rw [pay1_apply]
  unfold val column
  congr 1
  · funext k
    exact blk0 m c t r k
  · funext k
    exact blk1 m c t k
  · funext k
    exact blk2 m c t k f

/-- A point's block of the queries is the result's rows it lies at. -/
theorem tileQ (c : Dev nD) (t : Fin grid0.N) (y : S512x512.Idx) : out0_3 (iblk m c 0 t) (iblk m c 1 t) (iblk m c 2 t) y =
    resultQ m c (((cfg0.win 3).blk t).view.emb y) := by
  have hp : ((cfg0.win 3).blk t).view.emb y = (ix2 (⟨512 * t.val + (y 0 : Fin 512).val, row_lt t (y 0)⟩ : Fin 32768) (y 1 : Fin 512) : S32768x512.Idx) := by
    blk_ext [idx t]
  obtain ⟨r, f, rfl⟩ : ∃ (r : Fin 512) (f : Fin 512), y = ix2 r f := ⟨y 0, y 1, funext fun a => by fin_cases a <;> rfl⟩
  rw [hp]
  show _ = val m c _ _
  unfold out0_3
  rw [canon_hit _ _ _ (ix2 r f) _ (by funext a; fin_cases a <;> (apply Fin.ext; simp))]
  pointwise [k0_pay2]
  refine (point m c t r ⟨f.val, by omega⟩).trans ?_
  show val m c _ _ = val m c _ _
  congr 1

/-- A point's block of the shared keys and values is the result's rows it lies at. -/
theorem tileKv (c : Dev nD) (t : Fin grid0.N) (y : S512x128.Idx) : out0_4 (iblk m c 0 t) (iblk m c 1 t) (iblk m c 2 t) y =
    resultKv m c (((cfg0.win 4).blk t).view.emb y) := by
  have hp : ((cfg0.win 4).blk t).view.emb y = (ix2 (⟨512 * t.val + (y 0 : Fin 512).val, row_lt t (y 0)⟩ : Fin 32768) (y 1 : Fin 128) : S32768x128.Idx) := by
    blk_ext [idx t]
  obtain ⟨r, f, rfl⟩ : ∃ (r : Fin 512) (f : Fin 128), y = ix2 r f := ⟨y 0, y 1, funext fun a => by fin_cases a <;> rfl⟩
  rw [hp]
  show _ = val m c _ _
  unfold out0_4
  rw [canon_hit _ _ _ (ix2 r f) _ (by funext a; fin_cases a <;> (apply Fin.ext; simp))]
  pointwise [k0_pay3]
  exact (point m c t r ⟨512 + f.val, by omega⟩).trans (congrArg (val m c _) (Fin.ext (show 512 + f.val = 512 + f.val by omega)))

/-- A point's block of the indexer's queries is the result's rows it lies at. -/
theorem tileIq (c : Dev nD) (t : Fin grid0.N) (y : S512x256.Idx) : out0_5 (iblk m c 0 t) (iblk m c 1 t) (iblk m c 2 t) y =
    resultIq m c (((cfg0.win 5).blk t).view.emb y) := by
  have hp : ((cfg0.win 5).blk t).view.emb y = (ix2 (⟨512 * t.val + (y 0 : Fin 512).val, row_lt t (y 0)⟩ : Fin 32768) (y 1 : Fin 256) : S32768x256.Idx) := by
    blk_ext [idx t]
  obtain ⟨r, f, rfl⟩ : ∃ (r : Fin 512) (f : Fin 256), y = ix2 r f := ⟨y 0, y 1, funext fun a => by fin_cases a <;> rfl⟩
  rw [hp]
  show _ = val m c _ _
  unfold out0_5
  rw [canon_hit _ _ _ (ix2 r f) _ (by funext a; fin_cases a <;> (apply Fin.ext; simp))]
  pointwise [k0_pay4]
  exact (point m c t r ⟨640 + f.val, by omega⟩).trans (congrArg (val m c _) (Fin.ext (show 640 + f.val = 640 + f.val by omega)))

/-- A point's block of the indexer's keys and head weights is the result's rows it lies at. -/
theorem tileIkw (c : Dev nD) (t : Fin grid0.N) (y : S512x128.Idx) : out0_6 (iblk m c 0 t) (iblk m c 1 t) (iblk m c 2 t) y =
    resultIkw m c (((cfg0.win 6).blk t).view.emb y) := by
  have hp : ((cfg0.win 6).blk t).view.emb y = (ix2 (⟨512 * t.val + (y 0 : Fin 512).val, row_lt t (y 0)⟩ : Fin 32768) (y 1 : Fin 128) : S32768x128.Idx) := by
    blk_ext [idx t]
  obtain ⟨r, f, rfl⟩ : ∃ (r : Fin 512) (f : Fin 128), y = ix2 r f := ⟨y 0, y 1, funext fun a => by fin_cases a <;> rfl⟩
  rw [hp]
  show _ = val m c _ _
  unfold out0_6
  rw [canon_hit _ _ _ (ix2 r f) _ (by funext a; fin_cases a <;> (apply Fin.ext; simp))]
  pointwise [k0_pay5]
  exact (point m c t r ⟨896 + f.val, by omega⟩).trans (congrArg (val m c _) (Fin.ext (show 896 + f.val = 896 + f.val by omega)))

/-- A point's block of the recurrence's input is the result's part it lies at. -/
theorem tileU (c : Dev nD) (t : Fin grid0.N) (y : S512x512.Idx) : out0_7 (iblk m c 0 t) (iblk m c 1 t) (iblk m c 2 t) y =
    resultU m c (((cfg0.win 7).blk t).view.emb y) := by
  have hp : ((cfg0.win 7).blk t).view.emb y = (ix2 (⟨512 * (t.val % 8) + (y 0 : Fin 512).val, time_lt t (y 0)⟩ : Fin 4096)
      (⟨512 * (t.val / 8) + (y 1 : Fin 512).val, chan_lt t (y 1)⟩ : Fin 4096) : S4096x4096.Idx) := by
    blk_ext [idx t]
  obtain ⟨r, f, rfl⟩ : ∃ (r : Fin 512) (f : Fin 512), y = ix2 r f := ⟨y 0, y 1, funext fun a => by fin_cases a <;> rfl⟩
  rw [hp]
  show _ = val m c _ _
  unfold out0_7
  rw [canon_hit _ _ _ (ix2 r f) _ (by funext a; fin_cases a <;> (apply Fin.ext; simp))]
  pointwise [k0_pay6]
  exact (point m c t r ⟨1024 + f.val, by omega⟩).trans (congrArg₂ (val m c) (Fin.ext (show _ = 4096 * ((512 * (t.val / 8) + f.val) / 512) + (512 * (t.val % 8) + r.val) by simp only []; omega))
    (Fin.ext (show _ = 1024 + (512 * (t.val / 8) + f.val) % 512 by simp only []; omega)))

/-- After the run the array of the queries is the closed form. -/
theorem finalQ (c : Dev nD) : (dats m 0 c).arrAt 3 cfg0.N = resultQ m c :=
  (dats m 0 c).arrAt_eq_of_covers 3 _ (by decide +kernel) fun t hf y => (congrFun (after0_3 m c t) y).trans (tileQ m c t y)

/-- After the run the array of the shared keys and values is the closed form. -/
theorem finalKv (c : Dev nD) : (dats m 0 c).arrAt 4 cfg0.N = resultKv m c :=
  (dats m 0 c).arrAt_eq_of_covers 4 _ (by decide +kernel) fun t hf y => (congrFun (after0_4 m c t) y).trans (tileKv m c t y)

/-- After the run the array of the indexer's queries is the closed form. -/
theorem finalIq (c : Dev nD) : (dats m 0 c).arrAt 5 cfg0.N = resultIq m c :=
  (dats m 0 c).arrAt_eq_of_covers 5 _ (by decide +kernel) fun t hf y => (congrFun (after0_5 m c t) y).trans (tileIq m c t y)

/-- After the run the array of the indexer's keys and head weights is the closed form. -/
theorem finalIkw (c : Dev nD) : (dats m 0 c).arrAt 6 cfg0.N = resultIkw m c :=
  (dats m 0 c).arrAt_eq_of_covers 6 _ (by decide +kernel) fun t hf y => (congrFun (after0_6 m c t) y).trans (tileIkw m c t y)

/-- After the run the array of the recurrence's input is the closed form. -/
theorem finalU (c : Dev nD) : (dats m 0 c).arrAt 7 cfg0.N = resultU m c :=
  (dats m 0 c).arrAt_eq_of_covers 7 _ (by decide +kernel) fun t hf y => (congrFun (after0_7 m c t) y).trans (tileU m c t y)

/-- The recurrence's input by batch and time. -/
theorem valU_eq (c : Dev nD) (τ' q : Fin 4096) : valU m c τ' q =
    column (xT m c ⟨q.val / 512, by omega⟩ τ') (gT m c) (wT m c) ⟨1024 + q.val % 512, by omega⟩ := by
  unfold valU val
  congr 2
  · exact Fin.ext (show (4096 * (q.val / 512) + τ'.val) / 4096 = q.val / 512 by omega)
  · exact Fin.ext (show (4096 * (q.val / 512) + τ'.val) % 4096 = τ'.val by omega)

/-- The run: the result arrays are the closed forms and the arguments are unchanged. -/
theorem run : θ_run defs (onTc (τ := τ) (main (F := Ideal))) ⟨m, fun _ => 0, ρ⟩ fun r => ∀ c : Dev nD,
      r.2.mem ((c : Thread nD τ).loc main_v7_0) = resultQ m c
      ∧ r.2.mem ((c : Thread nD τ).loc main_v7_1) = resultKv m c
      ∧ r.2.mem ((c : Thread nD τ).loc main_v7_2) = resultIq m c
      ∧ r.2.mem ((c : Thread nD τ).loc main_v7_3) = resultIkw m c
      ∧ r.2.mem ((c : Thread nD τ).loc main_v7_4) = resultU m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (finalQ m c), (h c).2.1.trans (finalKv m c), (h c).2.2.1.trans (finalIq m c),
    (h c).2.2.2.1.trans (finalIkw m c), (h c).2.2.2.2.1.trans (finalU m c), (h c).2.2.2.2.2⟩) (Value.run_blocks m ρ)

end Cert.InKernelIdeal.Result
-- ==== Proof.InReferenceValue.lean ====
/-
The even layers' in-projection computed plainly: its results at a place.
-/
module

public import proofs.«01_k».proof.Proof.Gen.InReferenceIdeal.Read
public import proofs.«01_k».proof.Proof.InSpec
public import Idealize.ShloMosaic.Lib.Pipeline.ValueKit
public import Idealize.ShloMosaic.Lib.Pointwise

@[expose] public section

set_option maxRecDepth 16384

noncomputable section

namespace Cert.InReferenceIdeal.Result

open Cert.InReferenceIdeal Cert.InReferenceIdeal.Gen Cert.InReferenceIdeal.Read Idealize.ShloMosaic Idealize.ShloMosaic.TcCoe Idealize.SL.Sem
open Cert.FfnSpec (proj)
open Cert.InSpec

variable (x0 : (⟨S8x4096x1024, .f32⟩ : BufTy).Contents (Elt Ideal)) (x1 : (⟨S1024, .f32⟩ : BufTy).Contents (Elt Ideal))
  (x2 : (⟨S1024x1476, .f32⟩ : BufTy).Contents (Elt Ideal))

/-- Column `f` of the projection of batch `b`, time `τ'`. -/
def plain (b : Fin 8) (τ' : Fin 4096) (f : Fin 1476) : EReal := proj (fun k => x0 (ix3 b τ' k)) (fun k => x1 (ix1 k)) (fun k => x2 (ix2 k f))

/-- A column of the projection with the zero columns put in. -/
def spreadPlain (b : Fin 8) (τ' : Fin 4096) (j : Fin 1536) : EReal :=
  column (fun k => x0 (ix3 b τ' k)) (fun k => x1 (ix1 k)) (fun k f => x2 (ix2 k f)) j

/-- A column of the reference's projection. -/
theorem proj_apply (b : Fin 8) (τ' : Fin 4096) (f : Fin 1476) : val_main_v13 x0 x1 x2 (ix3 b τ' f) = plain x0 x1 x2 b τ' f := by
  unfold plain proj
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]

/-- The queries. -/
theorem q_apply (r : Fin 32768) (j : Fin 512) : val_main_v21 x0 x1 x2 (ix2 r j) =
    spreadPlain x0 x1 x2 ⟨r.val / 4096, by omega⟩ ⟨r.val % 4096, Nat.mod_lt _ (by norm_num)⟩ ⟨0 + j.val, by omega⟩ := by
  unfold spreadPlain
  rw [column_left _ _ _ _ (by simp only []; omega)]
  pointwise [val_main_v21, val_main_v20, val_main_v14]
  simp only [proj_apply, plain]

/-- The shared keys and values. -/
theorem kv_apply (r : Fin 32768) (j : Fin 128) : val_main_v23 x0 x1 x2 (ix2 r j) =
    spreadPlain x0 x1 x2 ⟨r.val / 4096, by omega⟩ ⟨r.val % 4096, Nat.mod_lt _ (by norm_num)⟩ ⟨512 + j.val, by omega⟩ := by
  unfold spreadPlain
  rw [column_left _ _ _ _ (by simp only []; omega)]
  pointwise [val_main_v23, val_main_v22, val_main_v15]
  simp only [proj_apply, plain]

/-- The indexer's queries. -/
theorem iq_apply (r : Fin 32768) (j : Fin 256) : val_main_v25 x0 x1 x2 (ix2 r j) =
    spreadPlain x0 x1 x2 ⟨r.val / 4096, by omega⟩ ⟨r.val % 4096, Nat.mod_lt _ (by norm_num)⟩ ⟨640 + j.val, by omega⟩ := by
  unfold spreadPlain
  rw [column_left _ _ _ _ (by simp only []; omega)]
  pointwise [val_main_v25, val_main_v24, val_main_v16]
  simp only [proj_apply, plain]

/-- The indexer's keys and head weights. -/
theorem ikw_apply_left (r : Fin 32768) (j : Fin 128) (h : j.val < 68) : val_main_v26 x0 x1 x2 (ix2 r j) =
    plain x0 x1 x2 ⟨r.val / 4096, by omega⟩ ⟨r.val % 4096, Nat.mod_lt _ (by norm_num)⟩ ⟨896 + j.val, by omega⟩ := by
  pointwise [val_main_v26, val_main_v19, val_main_v17]
  rw [dif_pos ⟨by omega, by omega, h⟩, proj_apply]

/-- The zero columns behind. -/
theorem ikw_apply_right (r : Fin 32768) (j : Fin 128) (h : ¬ j.val < 68) : val_main_v26 x0 x1 x2 (ix2 r j) = 0 := by
  pointwise [val_main_v26, val_main_v19]
  rw [dif_neg (fun q => h q.2.2)]
  pointwise [val_main_call0_v0, val_main_c]
  show (((0#32 : BitVec 32).toInt : ℝ) : EReal) = 0
  simp

/-- The indexer's keys and head weights, sixty zero columns behind. -/
theorem ikw_apply (r : Fin 32768) (j : Fin 128) : val_main_v26 x0 x1 x2 (ix2 r j) =
    spreadPlain x0 x1 x2 ⟨r.val / 4096, by omega⟩ ⟨r.val % 4096, Nat.mod_lt _ (by norm_num)⟩ ⟨896 + j.val, by omega⟩ := by
  unfold spreadPlain
  by_cases h : j.val < 68
  · rw [column_left _ _ _ _ (show 896 + j.val < 964 by omega), ikw_apply_left _ _ _ _ _ h]
    rfl
  · rw [column_zero _ _ _ _ (show 964 ≤ 896 + j.val ∧ 896 + j.val < 1024 by omega), ikw_apply_right _ _ _ _ _ h]

/-- The recurrence's input, time major. -/
theorem u_apply (τ' q : Fin 4096) : val_main_v29 x0 x1 x2 (ix2 τ' q) =
    spreadPlain x0 x1 x2 ⟨q.val / 512, by omega⟩ τ' ⟨1024 + q.val % 512, by omega⟩ := by
  unfold spreadPlain
  rw [column_right _ _ _ _ (by simp only []; omega)]
  pointwise [val_main_v29, val_main_v28, val_main_v27, val_main_v18]
  rw [proj_apply]
  unfold plain
  congr 1
  funext k
  exact congrArg (fun z => x2 (ix2 k z)) (Fin.ext (show 964 + q.val % 512 = 1024 + q.val % 512 - 60 by omega))

end Cert.InReferenceIdeal.Result
-- ==== Proof.InClaim.lean ====
/-
The in-projection call's claims: the kernel and the plain computation end with equal results.
-/
module

public import proofs.«01_k».proof.Defs
public import proofs.«01_k».proof.Proof.InKernelValue
public import proofs.«01_k».proof.Proof.InReferenceValue
public import proofs.«01_k».proof.Proof.Gen.InKernelIdeal
public import proofs.«01_k».proof.Proof.Gen.InReferenceIdeal

@[expose] public section

set_option maxRecDepth 16384

noncomputable section

namespace Cert.Proof

open Idealize.ShloMosaic Idealize.SL.Sem

/-- An index of a matrix is the pair of its coordinates. -/
theorem pair_eta {a b : ℕ} (i : Shape.Idx ⟨2, ![a, b]⟩) : i = ix2 (i 0 : Fin a) (i 1 : Fin b) := funext fun d => by fin_cases d <;> rfl

/-- From memories that agree on the arguments the two in-projection programs end with equal results. -/
theorem in_algebraic : Cert.algebraic_InKernelIdeal_InReferenceIdeal (hInKernelIdeal := Cert.InKernelIdeal.Gen.facts)
    (hInReferenceIdeal := Cert.InReferenceIdeal.Gen.facts) := by
  intro m ρ m' ρ' _ hagree
  refine ⟨fun c => (Cert.InKernelIdeal.Result.resultQ m c), fun c => Cert.InKernelIdeal.Result.resultKv m c, fun c => Cert.InKernelIdeal.Result.resultIq m c,
    fun c => Cert.InKernelIdeal.Result.resultIkw m c, fun c => Cert.InKernelIdeal.Result.resultU m c, Cert.InKernelIdeal.Result.run m ρ, ?_⟩
  refine (θ_run Cert.InReferenceIdeal.defs _ _).mono (fun _ h c => ⟨(h c).1.trans ?_, (h c).2.1.trans ?_, (h c).2.2.1.trans ?_,
    (h c).2.2.2.1.trans ?_, (h c).2.2.2.2.1.trans ?_, (h c).2.2.2.2.2⟩) (Cert.InReferenceIdeal.Value.run (F := Ideal) m' ρ')
  all_goals obtain ⟨h0, h1, h2⟩ := hagree c
  · rw [Cert.InReferenceIdeal.Read.val_main_v21_eq, h0, h1, h2]
    funext i
    rw [pair_eta i]
    exact Cert.InReferenceIdeal.Result.q_apply _ _ _ (i 0) (i 1)
  · rw [Cert.InReferenceIdeal.Read.val_main_v23_eq, h0, h1, h2]
    funext i
    rw [pair_eta i]
    exact Cert.InReferenceIdeal.Result.kv_apply _ _ _ (i 0) (i 1)
  · rw [Cert.InReferenceIdeal.Read.val_main_v25_eq, h0, h1, h2]
    funext i
    rw [pair_eta i]
    exact Cert.InReferenceIdeal.Result.iq_apply _ _ _ (i 0) (i 1)
  · rw [Cert.InReferenceIdeal.Read.val_main_v26_eq, h0, h1, h2]
    funext i
    rw [pair_eta i]
    exact Cert.InReferenceIdeal.Result.ikw_apply _ _ _ (i 0) (i 1)
  · rw [Cert.InReferenceIdeal.Read.val_main_v29_eq, h0, h1, h2]
    funext i
    rw [pair_eta i]
    exact (Cert.InReferenceIdeal.Result.u_apply _ _ _ (i 0) (i 1)).trans (Cert.InKernelIdeal.Result.valU_eq m c (i 0) (i 1)).symm

end Cert.Proof
-- ==== Proof.MemClaim.lean ====
/-
The attention over the memory's claims: with the two per-head gains finite, the kernel and the plain computation end with equal results.
-/
module

public import proofs.«01_k».proof.Defs
public import proofs.«01_k».proof.Proof.MemRun
public import proofs.«01_k».proof.Proof.MemReferenceValue
public import proofs.«01_k».proof.Proof.InClaim
public import proofs.«01_k».proof.Proof.Gen.MemKernelIdeal
public import proofs.«01_k».proof.Proof.Gen.MemReferenceIdeal
public import proofs.«01_k».proof.Proof.Gen.Pre_gains_finite

@[expose] public section

set_option maxRecDepth 16384

noncomputable section

namespace Cert.Proof

open Idealize.ShloMosaic Idealize.SL.Sem
open Cert.MemSpec

/-- A value whose absolute value lies below infinity is a real number. -/
theorem real_of_abs {x : EReal} (h : max x (-x) < Ideal.ofBits FTy.f32 2139095040#32) : IsReal x := by
  rw [greatest] at h
  refine .of_ne (fun e => ?_) (fun e => ?_) <;> subst e <;> simp at h

open Cert.Pre_gains_finite in
/-- What the precondition says of the two gains, place by place. -/
theorem gains_real (a0 : FVec Ideal S8x4096x1024 .f32) (a1 : FVec Ideal S8x256x1024 .f32) (a2 : FVec Ideal S1024 .f32) (a3 : FVec Ideal S4x1024 .f32)
    (a4 : FVec Ideal S1024x512 .f32) (a5 : FVec Ideal S4x1024x1024 .f32) (a6 : FVec Ideal S512x1024 .f32) (a7 : FVec Ideal S128 .f32)
    (a8 : FVec Ideal S4x128 .f32) (pre : Cert.Pre_gains_finite.fn (F := Ideal) a0 a1 a2 a3 a4 a5 a6 a7 a8 = fun _ => 1#1) (d : Fin 128) :
    IsReal (a7 (ix1 d)) ∧ IsReal (a8 (ix2 3 d)) := by
  have e := congrFun pre (ix1 d)
  pointwise [Cert.Pre_gains_finite.fn] at e
  have both : ∀ p q : Bool, IntOp.andi (BitVec.ofBool p) (BitVec.ofBool q) = 1#1 → p = true ∧ q = true := by decide
  obtain ⟨hp, hq⟩ := both _ _ e
  exact ⟨real_of_abs (of_decide_eq_true hp), real_of_abs (of_decide_eq_true hq)⟩

/-- A head's outputs agree where both gains are finite. -/
theorem heads_eq (m : (ℓ : Loc Cert.MemKernelIdeal.nD Cert.MemKernelIdeal.τ Cert.MemKernelIdeal.sig) → Buf (Elt Ideal) ℓ) (c : Dev Cert.MemKernelIdeal.nD)
    (hq : ∀ d, IsReal (Cert.MemKernelIdeal.Result.gqT m c d)) (hk : ∀ d, IsReal (Cert.MemKernelIdeal.Result.gkT m c 3 d))
    (b : Fin 8) (τ' : Fin 4096) (h : Fin 4) (d : Fin 128) :
    Cert.MemKernelIdeal.Result.headOut m c b τ' h d = headPlain (fun l => Cert.MemKernelIdeal.Result.query m c b τ' (col h l))
      (Cert.MemKernelIdeal.Result.gqT m c)
      (fun n d' => headNorm (fun l => Cert.MemKernelIdeal.Result.kv m c 3 b n ⟨128 * h.val + l.val, by omega⟩) (Cert.MemKernelIdeal.Result.gkT m c 3) d')
      fun n => Cert.MemKernelIdeal.Result.kv m c 3 b n ⟨512 + (128 * h.val + d.val), by omega⟩ := by
  have e : ∀ (n : Fin 256) (d' : Fin 128), Cert.MemKernelIdeal.Result.key m c 3 b n (col h d') =
      headNorm (fun l => Cert.MemKernelIdeal.Result.kv m c 3 b n ⟨128 * h.val + l.val, by omega⟩) (Cert.MemKernelIdeal.Result.gkT m c 3) d' := by
    intro n d'
    unfold Cert.MemKernelIdeal.Result.key
    have hd : (col h d').val / 128 = h.val := by simp only [col]; omega
    have hm : (col h d').val % 128 = d'.val := by simp only [col]; omega
    simp only [hd, hm]
  unfold Cert.MemKernelIdeal.Result.headOut
  simp only [e]
  exact head_eq _ _ _ _ hq fun n d' => headNorm_real _ _ hk d'

/-- From memories that agree on the arguments, the two gains finite, the two programs end with equal results. -/
theorem mem_algebraic : Cert.algebraic_MemKernelIdeal_MemReferenceIdeal_pre_gains_finite (hMemKernelIdeal := Cert.MemKernelIdeal.Gen.facts)
    (hMemReferenceIdeal := Cert.MemReferenceIdeal.Gen.facts) (hPre_gains_finite := Cert.Pre_gains_finite.Gen.facts) := by
  intro m ρ m' ρ' hpre hagree
  refine ⟨fun c => Cert.MemKernelIdeal.Result.result m c, Cert.MemKernelIdeal.Result.run m ρ, ?_⟩
  refine (θ_run Cert.MemReferenceIdeal.defs _ _).mono (fun _ h c => ⟨(h c).1.trans ?_, (h c).2⟩) (Cert.MemReferenceIdeal.Value.run (F := Ideal) m' ρ')
  obtain ⟨h0, h1, h2, h3, h4, h5, h6, h7, h8⟩ := hagree c
  have hg := gains_real _ _ _ _ _ _ _ _ _ (hpre c)
  rw [Cert.MemReferenceIdeal.Read.val_main_v84_eq, h0, h1, h2, h3, h4, h5, h6, h7, h8]
  funext i
  rw [pair_eta i]
  refine (Cert.MemReferenceIdeal.Result.result_apply _ _ _ _ _ _ _ _ _ (i 0) (i 1)).trans ?_
  refine congrArg (fun o => out _ o _) (funext fun h => funext fun d => ?_)
  exact (heads_eq m c (fun d => (hg d).1) (fun d => (hg d).2) _ _ h d).symm

end Cert.Proof
-- ==== Proof.OutSpec.lean ====
/-
The even layers' out-projection as one closed form over the extended reals.
-/
module

public import Idealize.ShloMosaic.Lib.Pointwise

@[expose] public section

noncomputable section

namespace Cert.OutSpec

open Idealize.ShloMosaic

/-- The residual plus a row of attention outputs `a` and a row of recurrence outputs `b`, each against its half of a column. -/
def out (x : EReal) (a b wa wb : Fin 512 → EReal) : EReal := x + ((∑ j : Fin 512, a j * wa j) + ∑ j : Fin 512, b j * wb j)

end Cert.OutSpec
-- ==== Proof.OutKernelValue.lean ====
/-
The even layers' out-projection kernel's result array.
-/
module

public import proofs.«01_k».proof.Proof.Gen.OutKernelIdeal.Value
public import proofs.«01_k».proof.Proof.Pieces
public import proofs.«01_k».proof.Proof.OutSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.OutKernelIdeal.Result

open Cert.OutKernelIdeal Cert.OutKernelIdeal.Gen Idealize.ShloMosaic Idealize.ShloMosaic.TcCoe Idealize.SL.Sem
open Idealize.ShloMosaic.Pipeline (Dat)
open Cert.OutSpec Cert.Pieces

variable (m : (ℓ : Loc nD τ sig) → Buf (Elt Ideal) ℓ) (ρ : Dev nD → PrngReg)

/-- The residual stream entering the call, as a table. -/
def xT (c : Dev nD) (b : Fin 8) (τ' : Fin 4096) (k : Fin 1024) : EReal := m ((c : Thread nD τ).loc main_arg0) (ix3 b τ' k)
/-- The attention outputs. -/
def aT (c : Dev nD) (r : Fin 32768) (k : Fin 512) : EReal := m ((c : Thread nD τ).loc main_arg1) (ix2 r k)
/-- The recurrence outputs, time major. -/
def bT (c : Dev nD) (r : Fin 4096) (k : Fin 4096) : EReal := m ((c : Thread nD τ).loc main_arg2) (ix2 r k)
/-- The out-projection. -/
def wT (c : Dev nD) (k : Fin 1024) (f : Fin 1024) : EReal := m ((c : Thread nD τ).loc main_arg3) (ix2 k f)

/-- The result at row `r`, column `f`. -/
def val (c : Dev nD) (r : Fin 32768) (f : Fin 1024) : EReal :=
  out (xT m c ⟨r.val / 4096, by omega⟩ ⟨r.val % 4096, Nat.mod_lt _ (by norm_num)⟩ f) (aT m c r)
    (fun j => bT m c ⟨r.val % 4096, Nat.mod_lt _ (by norm_num)⟩ ⟨512 * (r.val / 4096) + j.val, by omega⟩)
    (fun j => wT m c ⟨j.val, by omega⟩ f) (fun j => wT m c ⟨512 + j.val, by omega⟩ f)

/-- The result array of the call. -/
def result (c : Dev nD) : Buf (Elt Ideal) ((c : Thread nD τ).loc main_v4) := fun i => val m c (i 0) (i 1)

/-- Where each window stands at a point. -/
theorem idx : ∀ t : Fin cfg0.N, win0_0.index t = ![t.val, 0] ∧ win0_1.index t = ![t.val, 0] ∧ win0_2.index t = ![t.val % 8, t.val / 8] ∧
    win0_3.index t = ![0, 0] ∧ win0_4.index t = ![0, 0] ∧ win0_5.index t = ![t.val, 0] :=
  (by decide +kernel : ∀ t : Fin grid0.N, _)

/-- The number of a point is below the number of points. -/
theorem lt_points (t : Fin cfg0.N) : t.val < 64 := lt_of_lt_of_eq t.isLt N_0

/-- First window: the block it holds at a point, element by element. -/
theorem blk0 (c : Dev nD) (t : Fin cfg0.N) (r : Fin 512) (k : Fin 1024) : iblk m c 0 t (ix2 r k) =
    xT m c ⟨(512 * t.val + r.val) / 4096, by have := lt_points t; omega⟩ ⟨(512 * t.val + r.val) % 4096, Nat.mod_lt _ (by norm_num)⟩ k := by
  unfold xT
  blk_ext! [iblk, V, idx t]

/-- Second window: the block it holds at a point, element by element. -/
theorem blk1 (c : Dev nD) (t : Fin cfg0.N) (r : Fin 512) (k : Fin 512) : iblk m c 1 t (ix2 r k) =
    aT m c ⟨512 * t.val + r.val, by have := lt_points t; omega⟩ k := by
  unfold aT
  blk_ext [iblk, V, idx t]

/-- Third window: the block it holds at a point, element by element. -/
theorem blk2 (c : Dev nD) (t : Fin cfg0.N) (r : Fin 512) (k : Fin 512) : iblk m c 2 t (ix2 r k) =
    bT m c ⟨512 * (t.val % 8) + r.val, by have := lt_points t; omega⟩ ⟨512 * (t.val / 8) + k.val, by have := lt_points t; omega⟩ := by
  unfold bT
  blk_ext [iblk, V, idx t]

/-- Fourth window: the block it holds at a point, element by element. -/
theorem blk3 (c : Dev nD) (t : Fin cfg0.N) (k : Fin 512) (f : Fin 1024) : iblk m c 3 t (ix2 k f) = wT m c ⟨k.val, by omega⟩ f := by
  unfold wT
  blk_ext! [iblk, V, idx t]

/-- Fifth window: the block it holds at a point, element by element. -/
theorem blk4 (c : Dev nD) (t : Fin cfg0.N) (k : Fin 512) (f : Fin 1024) : iblk m c 4 t (ix2 k f) = wT m c ⟨512 + k.val, by omega⟩ f := by
  unfold wT
  blk_ext! [iblk, V, idx t]

/-- One element of a point's output block. -/
theorem block_apply (x0 : Vec Ideal S512x1024 .f32) (x1 x2 : Vec Ideal S512x512 .bf16) (x3 x4 : Vec Ideal S512x1024 .bf16)
    (r : Fin 512) (f : Fin 1024) : out0_5 x0 x1 x2 x3 x4 (ix2 r f) =
    out (x0 (ix2 r f)) (fun j => x1 (ix2 r j)) (fun j => x2 (ix2 r j)) (fun j => x3 (ix2 j f)) (fun j => x4 (ix2 j f)) := by
  unfold out0_5 out
  rw [canon_hit _ _ _ (ix2 r f) _ (by funext a; fin_cases a <;> (apply Fin.ext; simp)), ← add_assoc]
  pointwise [k0_pay1]

/-- What a point leaves in its output block. -/
def tile (c : Dev nD) (t : Fin cfg0.N) : Vec Ideal S512x1024 .f32 :=
  out0_5 (iblk m c 0 t) (iblk m c 1 t) (iblk m c 2 t) (iblk m c 3 t) (iblk m c 4 t)

/-- An element of a point's output block is the result array's element of that row and column. -/
theorem out_result (c : Dev nD) (t : Fin cfg0.N) (r : Fin 512) (f : Fin 1024) :
    tile m c t (ix2 r f) =
    result m c (ix2 (⟨512 * t.val + r.val, by have := lt_points t; omega⟩ : Fin 32768) f) := by
  have ht := lt_points t
  unfold tile
  rw [block_apply]
  show _ = val m c (⟨512 * t.val + r.val, by omega⟩ : Fin 32768) f
  unfold val
  congr 1
  · exact blk0 m c t r f
  · funext j
    exact blk1 m c t r j
  · funext j
    rw [blk2]
    congr 1 <;> (apply Fin.ext; simp only []; omega)
  · funext j
    exact blk3 m c t j f
  · funext j
    exact blk4 m c t j f

/-- The block of a step, place by place, in the result array. -/
theorem emb5 (t : Fin grid0.N) (y : S512x1024.Idx) : ((cfg0.win 5).blk t).view.emb y = (ix2 (⟨512 * t.val + (y 0 : Fin 512).val, by
      have := lt_points t; have h := (y 0 : Fin 512).isLt; exact (show 512 * t.val + (y 0 : Fin 512).val < 32768 by change (y 0).val < 512 at h; change 512 * t.val + (y 0).val < 32768; omega)⟩ : Fin 32768) (y 1 : Fin 1024) : S32768x1024.Idx) := by
    blk_ext [idx t]

/-- A step's block is the closed form at the places the block lies at. -/
theorem tile_result (c : Dev nD) (t : Fin grid0.N) (y : S512x1024.Idx) : tile m c t y = result m c (((cfg0.win 5).blk t).view.emb y) := by
  have hy : y = (ix2 (y 0 : Fin 512) (y 1 : Fin 1024) : S512x1024.Idx) := funext fun a => by fin_cases a <;> rfl
  rw [emb5]
  exact (congrArg (tile m c t) hy).trans (out_result m c t (y 0) (y 1))

/-- After the run the result array is the closed form. -/
theorem final (c : Dev nD) : (dats m 0 c).arrAt 5 cfg0.N = result m c := by
  refine (dats m 0 c).arrAt_eq_of_covers 5 _ (by decide +kernel) fun t hf y => ?_
  exact (congrFun (after0_5 m c t) y).trans (tile_result m c t y)

/-- The run: the result array is the closed form and the arguments are unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.OutKernelIdeal.Result
-- ==== Proof.OutReferenceValue.lean ====
/-
The even layers' out-projection reference's result array.
-/
module

public import proofs.«01_k».proof.Proof.OutSpec
public import proofs.«01_k».proof.Proof.Gen.OutReferenceIdeal.Read
public import Idealize.ShloMosaic.Lib.Pointwise

@[expose] public section

set_option maxRecDepth 16384

noncomputable section

namespace Cert.OutReferenceIdeal.Result

open Cert.OutReferenceIdeal Cert.OutReferenceIdeal.Gen Cert.OutReferenceIdeal.Read Idealize.ShloMosaic Idealize.ShloMosaic.TcCoe Idealize.SL.Sem
open Cert.OutSpec

variable (x0 : (⟨S8x4096x1024, .f32⟩ : BufTy).Contents (Elt Ideal)) (x1 : (⟨S32768x512, .bf16⟩ : BufTy).Contents (Elt Ideal))
  (x2 : (⟨S4096x4096, .bf16⟩ : BufTy).Contents (Elt Ideal)) (x3 : (⟨S1024x1024, .f32⟩ : BufTy).Contents (Elt Ideal))

/-- The first half of the concatenated row is the attention's. -/
theorem left_apply (b : Fin 8) (τ' : Fin 4096) (j : Fin 512) : val_main_v4 x1 x2 (ix3 b τ' (⟨j.val, by omega⟩ : Fin 1024)) =
    x1 (ix2 (⟨b.val * 4096 + τ'.val, by omega⟩ : Fin 32768) j) := by
  pointwise [val_main_v4, val_main_v3, val_main_v2]

/-- The second half is the recurrence's. -/
theorem right_apply (b : Fin 8) (τ' : Fin 4096) (j : Fin 512) : val_main_v4 x1 x2 (ix3 b τ' (⟨512 + j.val, by omega⟩ : Fin 1024)) =
    x2 (ix2 τ' (⟨b.val * 512 + j.val, by omega⟩ : Fin 4096)) := by
  pointwise [val_main_v4, val_main_v3, val_main_v1, val_main_v0]

/-- The result at a row and column. -/
theorem out_apply (r : Fin 32768) (f : Fin 1024) : val_main_v7 x0 x1 x2 x3 (ix2 r f) =
    out (x0 (ix3 (⟨r.val / 4096, by omega⟩ : Fin 8) (⟨r.val % 4096, Nat.mod_lt _ (by norm_num)⟩ : Fin 4096) f)) (fun j => x1 (ix2 r j))
      (fun j => x2 (ix2 (⟨r.val % 4096, Nat.mod_lt _ (by norm_num)⟩ : Fin 4096) (⟨512 * (r.val / 4096) + j.val, by omega⟩ : Fin 4096)))
      (fun j => x3 (ix2 (⟨j.val, by omega⟩ : Fin 1024) f)) (fun j => x3 (ix2 (⟨512 + j.val, by omega⟩ : Fin 1024) f)) := by
  unfold out
  rw [val_main_v7_apply, show idx_main_v7 (ix2 r f) = ix3 (⟨r.val / 4096, by omega⟩ : Fin 8) (⟨r.val % 4096, Nat.mod_lt _ (by norm_num)⟩ : Fin 4096) f from
    funext fun a => by fin_cases a <;> (apply Fin.ext; simp <;> omega)]
  pointwise [val_main_v6, val_main_v5]
  congr 1
  rw [show (∑ k : Fin 1024, val_main_v4 x1 x2 (ix3 (⟨r.val / 4096, by omega⟩ : Fin 8) (⟨r.val % 4096, Nat.mod_lt _ (by norm_num)⟩ : Fin 4096) k) * x3 (ix2 k f)) = _
    from Fin.sum_univ_add (a := 512) (b := 512) _]
  congr 1
  · refine Finset.sum_congr rfl fun j _ => ?_
    refine congrArg₂ (· * ·) ((left_apply x1 x2 _ _ j).trans ?_) rfl
    exact congrArg (fun q => x1 (ix2 q j)) (Fin.ext (by simp only []; omega))
  · refine Finset.sum_congr rfl fun j _ => ?_
    refine congrArg₂ (· * ·) ((right_apply x1 x2 _ _ j).trans ?_) rfl
    exact congrArg (fun q => x2 (ix2 _ q)) (Fin.ext (by simp only []; omega))

end Cert.OutReferenceIdeal.Result
-- ==== Proof.OutClaim.lean ====
/-
The output-projection call's claims: the kernel and the plain computation end with equal results.
-/
module

public import proofs.«01_k».proof.Defs
public import proofs.«01_k».proof.Proof.OutKernelValue
public import proofs.«01_k».proof.Proof.OutReferenceValue
public import proofs.«01_k».proof.Proof.Gen.OutKernelIdeal
public import proofs.«01_k».proof.Proof.Gen.OutReferenceIdeal

@[expose] public section

set_option maxRecDepth 16384

noncomputable section

namespace Cert.Proof

open Idealize.ShloMosaic Idealize.SL.Sem

/-- From memories that agree on the arguments the two output-projection programs end with equal results. -/
theorem out_algebraic : Cert.algebraic_OutKernelIdeal_OutReferenceIdeal (hOutKernelIdeal := Cert.OutKernelIdeal.Gen.facts)
    (hOutReferenceIdeal := Cert.OutReferenceIdeal.Gen.facts) := by
  intro m ρ m' ρ' _ hagree
  refine ⟨fun c => Cert.OutKernelIdeal.Result.result m c, Cert.OutKernelIdeal.Result.run m ρ, ?_⟩
  refine (θ_run Cert.OutReferenceIdeal.defs _ _).mono (fun _ h c => ⟨(h c).1.trans ?_, (h c).2⟩) (Cert.OutReferenceIdeal.Value.run (F := Ideal) m' ρ')
  obtain ⟨h0, h1, h2, h3⟩ := hagree c
  rw [Cert.OutReferenceIdeal.Read.val_main_v7_eq, h0, h1, h2, h3]
  funext i
  have hi : i = ix2 (i 0 : Fin 32768) (i 1 : Fin 1024) := funext fun a => by fin_cases a <;> rfl
  rw [hi]
  exact Cert.OutReferenceIdeal.Result.out_apply _ _ _ _ (i 0) (i 1)

end Cert.Proof
-- ==== Proof.lean ====
/-
The proof of the certificate's claims: the frames, that idealizing rewrote nothing, and the equations.
-/
module

public import proofs.«01_k».proof.Proof.Gen.OddKernel.Frame
public import proofs.«01_k».proof.Proof.Gen.OddKernelIdeal.Frame
public import proofs.«01_k».proof.Proof.Gen.OddReferenceIdeal.Run
public import proofs.«01_k».proof.Proof.Gen.OddReferenceIdeal.Read
public import proofs.«01_k».proof.Proof.Gen.OddKernelIdeal.Value
public import proofs.«01_k».proof.Proof.Gen.MemKernel.Frame
public import proofs.«01_k».proof.Proof.Gen.MemKernelIdeal.Frame
public import proofs.«01_k».proof.Proof.Gen.MemReferenceIdeal.Run
public import proofs.«01_k».proof.Proof.Gen.MemReferenceIdeal.Read
public import proofs.«01_k».proof.Proof.Gen.InKernel.Frame
public import proofs.«01_k».proof.Proof.Gen.InKernelIdeal.Frame
public import proofs.«01_k».proof.Proof.Gen.InReferenceIdeal.Run
public import proofs.«01_k».proof.Proof.Gen.InReferenceIdeal.Read
public import proofs.«01_k».proof.Proof.Gen.InKernelIdeal.Value
public import proofs.«01_k».proof.Proof.Gen.OutKernel.Frame
public import proofs.«01_k».proof.Proof.Gen.OutKernelIdeal.Frame
public import proofs.«01_k».proof.Proof.Gen.OutReferenceIdeal.Run
public import proofs.«01_k».proof.Proof.Gen.OutReferenceIdeal.Read
public import proofs.«01_k».proof.Proof.Gen.OutKernelIdeal.Value
public import proofs.«01_k».proof.Defs
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnKernelIdeal.Value
public import proofs.«01_k».proof.Proof.Gen.FfnReferenceIdeal.Run
public import proofs.«01_k».proof.Proof.Gen.FfnReferenceIdeal.Read
public import proofs.«01_k».proof.Proof.FfnClaim
public import proofs.«01_k».proof.Proof.OddClaim
public import proofs.«01_k».proof.Proof.Gen.Pre_gains_finite
public import proofs.«01_k».proof.Proof.MemClaim
public import proofs.«01_k».proof.Proof.InClaim
public import proofs.«01_k».proof.Proof.OutClaim
public import Idealize.ShloMosaic.Lib.Quiescent
public import Idealize.ShloMosaic.Adequacy
public import Idealize.ShloMosaic.Init

@[expose] public section

noncomputable section

namespace Cert.Proof

open Idealize.ShloMosaic Idealize.SL.Sem

/-- The feed-forward reference declares no semaphore and leaves its arguments as they were. -/
theorem ffn_reference_frame : Cert.quiescent_FfnReferenceIdeal (hFfnReferenceIdeal := Cert.FfnReferenceIdeal.Gen.facts) := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The gated-convolution reference declares no semaphore and leaves its arguments as they were. -/
theorem odd_reference_frame : Cert.quiescent_OddReferenceIdeal (hOddReferenceIdeal := Cert.OddReferenceIdeal.Gen.facts) := fun m ρ _ =>
  (θ_run Cert.OddReferenceIdeal.defs _ _).mono (fun r h => ⟨fun c => (h c).2, sem_eq_zero_of_no_sems (by decide) r.2⟩)
    (Cert.OddReferenceIdeal.Value.run (F := Ideal) m ρ)

/-- The memory cross-attention reference declares no semaphore and leaves its arguments as they were. -/
theorem mem_reference_frame : Cert.quiescent_MemReferenceIdeal (hMemReferenceIdeal := Cert.MemReferenceIdeal.Gen.facts) := fun m ρ _ =>
  (θ_run Cert.MemReferenceIdeal.defs _ _).mono (fun r h => ⟨fun c => (h c).2, sem_eq_zero_of_no_sems (by decide) r.2⟩)
    (Cert.MemReferenceIdeal.Value.run (F := Ideal) m ρ)

/-- The in-projection reference declares no semaphore and leaves its arguments as they were. -/
theorem in_reference_frame : Cert.quiescent_InReferenceIdeal (hInReferenceIdeal := Cert.InReferenceIdeal.Gen.facts) := fun m ρ _ =>
  (θ_run Cert.InReferenceIdeal.defs _ _).mono (fun r h => ⟨fun c => (h c).2.2.2.2.2, sem_eq_zero_of_no_sems (by decide) r.2⟩)
    (Cert.InReferenceIdeal.Value.run (F := Ideal) m ρ)

/-- The out-projection reference declares no semaphore and leaves its arguments as they were. -/
theorem out_reference_frame : Cert.quiescent_OutReferenceIdeal (hOutReferenceIdeal := Cert.OutReferenceIdeal.Gen.facts) := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- Every claim of this certificate. -/
theorem claim : Cert.Claim := ⟨Cert.FfnKernel.Gen.facts, Cert.FfnKernelIdeal.Gen.facts, Cert.FfnReferenceIdeal.Gen.facts,
  Cert.OddKernel.Gen.facts, Cert.OddKernelIdeal.Gen.facts, Cert.OddReferenceIdeal.Gen.facts,
  Cert.MemKernel.Gen.facts, Cert.MemKernelIdeal.Gen.facts, Cert.MemReferenceIdeal.Gen.facts,
  Cert.InKernel.Gen.facts, Cert.InKernelIdeal.Gen.facts, Cert.InReferenceIdeal.Gen.facts,
  Cert.OutKernel.Gen.facts, Cert.OutKernelIdeal.Gen.facts, Cert.OutReferenceIdeal.Gen.facts,
  Cert.Pre_gains_finite.Gen.facts,
  fun m ρ _ => Cert.FfnKernel.Gen.frame m ρ, fun m ρ _ => Cert.FfnKernelIdeal.Gen.frame m ρ, ffn_reference_frame,
  fun m ρ _ => Cert.OddKernel.Gen.frame m ρ, fun m ρ _ => Cert.OddKernelIdeal.Gen.frame m ρ, odd_reference_frame,
  fun m ρ _ => Cert.MemKernel.Gen.frame m ρ, fun m ρ _ => Cert.MemKernelIdeal.Gen.frame m ρ,
  fun m ρ _ => Cert.MemKernelIdeal.Gen.frame m ρ, mem_reference_frame, fun m ρ _ => mem_reference_frame m ρ trivial,
  fun m ρ _ => Cert.InKernel.Gen.frame m ρ, fun m ρ _ => Cert.InKernelIdeal.Gen.frame m ρ, in_reference_frame,
  fun m ρ _ => Cert.OutKernel.Gen.frame m ρ, fun m ρ _ => Cert.OutKernelIdeal.Gen.frame m ρ, out_reference_frame,
  trivial, ffn_algebraic, trivial, odd_algebraic, trivial, mem_algebraic, trivial, in_algebraic, trivial, out_algebraic⟩

end Cert.Proof

end
